-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_and_finite_tables [hPre_codes_and_finite_tables : Cert.Pre_codes_and_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_codes_and_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_finite_tables [hPre_codes_and_finite_tables : Cert.Pre_codes_and_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_codes_and_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_codes_and_finite_tables [hKernelIdeal : Cert.KernelIdeal.Facts] [hPre_codes_and_finite_tables : Cert.Pre_codes_and_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_codes_and_finite_tables [hReferenceIdeal : Cert.ReferenceIdeal.Facts] [hPre_codes_and_finite_tables : Cert.Pre_codes_and_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_codes_and_finite_tables [hKernelIdeal : Cert.KernelIdeal.Facts] [hReferenceIdeal : Cert.ReferenceIdeal.Facts] [hPre_codes_and_finite_tables : Cert.Pre_codes_and_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_codes_and_finite_tables : Cert.Pre_codes_and_finite_tables.Facts),
    quiescent_Kernel (hKernel := hKernel)
    ∧ quiescent_KernelIdeal (hKernelIdeal := hKernelIdeal)
    ∧ quiescent_KernelIdeal_pre_codes_and_finite_tables (hKernelIdeal := hKernelIdeal) (hPre_codes_and_finite_tables := hPre_codes_and_finite_tables)
    ∧ quiescent_ReferenceIdeal (hReferenceIdeal := hReferenceIdeal)
    ∧ quiescent_ReferenceIdeal_pre_codes_and_finite_tables (hReferenceIdeal := hReferenceIdeal) (hPre_codes_and_finite_tables := hPre_codes_and_finite_tables)
    ∧ preserves_Kernel_KernelIdeal
    ∧ algebraic_KernelIdeal_ReferenceIdeal_pre_codes_and_finite_tables (hKernelIdeal := hKernelIdeal) (hReferenceIdeal := hReferenceIdeal) (hPre_codes_and_finite_tables := hPre_codes_and_finite_tables)
-- ==== Pre_codes_and_finite_tables.lean ====
abbrev S100000x78 : Shape := ⟨2, ![100000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S36x4 : Shape := ⟨2, ![36, 4]⟩
abbrev S4 : Shape := ⟨1, ![4]⟩
abbrev S48x16 : Shape := ⟨2, ![48, 16]⟩
abbrev S16 : Shape := ⟨1, ![16]⟩
abbrev S100000x30 : Shape := ⟨2, ![100000, 30]⟩
abbrev S100000x1 : Shape := ⟨2, ![100000, 1]⟩
abbrev S_ : Shape := ⟨0, ![]⟩

class Facts : Prop where
  slices_S100000x78_S100000x30_0_0 : S100000x78.Slices ![0, 0] S100000x30
  slices_S100000x30_S100000x1_0_5 : S100000x30.Slices ![0, 5] S100000x1
  bcast_S_S100000x1 : S_.BroadcastsInDim S100000x1 (![] : Fin 0 → Fin S100000x1.rank)
  bcast_S_S7x4 : S_.BroadcastsInDim S7x4 (![] : Fin 0 → Fin S7x4.rank)
  bcast_S_S2x4 : S_.BroadcastsInDim S2x4 (![] : Fin 0 → Fin S2x4.rank)
  bcast_S_S8x4 : S_.BroadcastsInDim S8x4 (![] : Fin 0 → Fin S8x4.rank)
  bcast_S_S6x4 : S_.BroadcastsInDim S6x4 (![] : Fin 0 → Fin S6x4.rank)
  bcast_S_S5x4 : S_.BroadcastsInDim S5x4 (![] : Fin 0 → Fin S5x4.rank)
  bcast_S_S18x2x2 : S_.BroadcastsInDim S18x2x2 (![] : Fin 0 → Fin S18x2x2.rank)
  bcast_S_S2x2 : S_.BroadcastsInDim S2x2 (![] : Fin 0 → Fin S2x2.rank)
  bcast_S_S36x4 : S_.BroadcastsInDim S36x4 (![] : Fin 0 → Fin S36x4.rank)

variable [Facts]

def fn_part2 {F : FTy → Type} [FloatOps F] (main_arg11 : FVec F S7x4 .f32) (main_arg12 : FVec F S5x4 .f32) (main_arg13 : FVec F S8x4 .f32) (main_arg14 : FVec F S36x4 .f32) (main_v4 : IVec S100000x30 1) (main_v6 : IVec S100000x1 1) (main_v9 : IVec S7x4 1) (main_v12 : IVec S7x4 1) (main_v15 : IVec S2x4 1) (main_v18 : IVec S8x4 1) (main_v21 : IVec S2x4 1) (main_v24 : IVec S6x4 1) (main_v27 : IVec S5x4 1) (main_v30 : IVec S18x2x2 1) (main_v33 : IVec S2x2 1) (main_v36 : IVec S2x2 1) : IVec S100000x30 1 × IVec S100000x1 1 × IVec S7x4 1 × IVec S7x4 1 × IVec S2x4 1 × IVec S8x4 1 × IVec S2x4 1 × IVec S6x4 1 × IVec S5x4 1 × IVec S18x2x2 1 × IVec S2x2 1 × IVec S2x2 1 × IVec S7x4 1 × IVec S5x4 1 × IVec S8x4 1 × IVec S36x4 1 :=
  let main_v37 : FVec F S7x4 .f32 := subf main_arg11 main_arg11
  let main_cst_9 : FVec F S_ .f32 := constant S_ .f32 0x00000000#32
  let main_v38 : FVec F S7x4 .f32 := broadcastInDim S7x4 ![] bcast_S_S7x4 main_cst_9
  let main_v39 : IVec S7x4 1 := cmpf .oeq main_v37 main_v38
  let main_v40 : FVec F S5x4 .f32 := subf main_arg12 main_arg12
  let main_cst_10 : FVec F S_ .f32 := constant S_ .f32 0x00000000#32
  let main_v41 : FVec F S5x4 .f32 := broadcastInDim S5x4 ![] bcast_S_S5x4 main_cst_10
  let main_v42 : IVec S5x4 1 := cmpf .oeq main_v40 main_v41
  let main_v43 : FVec F S8x4 .f32 := subf main_arg13 main_arg13
  let main_cst_11 : FVec F S_ .f32 := constant S_ .f32 0x00000000#32
  let main_v44 : FVec F S8x4 .f32 := broadcastInDim S8x4 ![] bcast_S_S8x4 main_cst_11
  let main_v45 : IVec S8x4 1 := cmpf .oeq main_v43 main_v44
  let main_v46 : FVec F S36x4 .f32 := subf main_arg14 main_arg14
  let main_cst_12 : FVec F S_ .f32 := constant S_ .f32 0x00000000#32
  let main_v47 : FVec F S36x4 .f32 := broadcastInDim S36x4 ![] bcast_S_S36x4 main_cst_12
  let main_v48 : IVec S36x4 1 := cmpf .oeq main_v46 main_v47
  (main_v4, main_v6, main_v9, main_v12, main_v15, main_v18, main_v21, main_v24, main_v27, main_v30, main_v33, main_v36, main_v39, main_v42, main_v45, main_v48)

def fn_part1 {F : FTy → Type} [FloatOps F] (main_arg5 : FVec F S2x4 .f32) (main_arg6 : FVec F S6x4 .f32) (main_arg7 : FVec F S5x4 .f32) (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S36x4 .f32) (main_v4 : IVec S100000x30 1) (main_v6 : IVec S100000x1 1) (main_v9 : IVec S7x4 1) (main_v12 : IVec S7x4 1) (main_v15 : IVec S2x4 1) (main_v18 : IVec S8x4 1) : IVec S100000x30 1 × IVec S100000x1 1 × IVec S7x4 1 × IVec S7x4 1 × IVec S2x4 1 × IVec S8x4 1 × IVec S2x4 1 × IVec S6x4 1 × IVec S5x4 1 × IVec S18x2x2 1 × IVec S2x2 1 × IVec S2x2 1 × IVec S7x4 1 × IVec S5x4 1 × IVec S8x4 1 × IVec S36x4 1 :=
  let main_v19 : FVec F S2x4 .f32 := subf main_arg5 main_arg5
  let main_cst_3 : FVec F S_ .f32 := constant S_ .f32 0x00000000#32
  let main_v20 : FVec F S2x4 .f32 := broadcastInDim S2x4 ![] bcast_S_S2x4 main_cst_3
  let main_v21 : IVec S2x4 1 := cmpf .oeq main_v19 main_v20
  let main_v22 : FVec F S6x4 .f32 := subf main_arg6 main_arg6
  let main_cst_4 : FVec F S_ .f32 := constant S_ .f32 0x00000000#32
  let main_v23 : FVec F S6x4 .f32 := broadcastInDim S6x4 ![] bcast_S_S6x4 main_cst_4
  let main_v24 : IVec S6x4 1 := cmpf .oeq main_v22 main_v23
  let main_v25 : FVec F S5x4 .f32 := subf main_arg7 main_arg7
  let main_cst_5 : FVec F S_ .f32 := constant S_ .f32 0x00000000#32
  let main_v26 : FVec F S5x4 .f32 := broadcastInDim S5x4 ![] bcast_S_S5x4 main_cst_5
  let main_v27 : IVec S5x4 1 := cmpf .oeq main_v25 main_v26
  let main_v28 : FVec F S18x2x2 .f32 := subf main_arg8 main_arg8
  let main_cst_6 : FVec F S_ .f32 := constant S_ .f32 0x00000000#32
  let main_v29 : FVec F S18x2x2 .f32 := broadcastInDim S18x2x2 ![] bcast_S_S18x2x2 main_cst_6
  let main_v30 : IVec S18x2x2 1 := cmpf .oeq main_v28 main_v29
  let main_v31 : FVec F S2x2 .f32 := subf main_arg9 main_arg9
  let main_cst_7 : FVec F S_ .f32 := constant S_ .f32 0x00000000#32
  let main_v32 : FVec F S2x2 .f32 := broadcastInDim S2x2 ![] bcast_S_S2x2 main_cst_7
  let main_v33 : IVec S2x2 1 := cmpf .oeq main_v31 main_v32
  let main_v34 : FVec F S2x2 .f32 := subf main_arg10 main_arg10
  let main_cst_8 : FVec F S_ .f32 := constant S_ .f32 0x00000000#32
  let main_v35 : FVec F S2x2 .f32 := broadcastInDim S2x2 ![] bcast_S_S2x2 main_cst_8
  let main_v36 : IVec S2x2 1 := cmpf .oeq main_v34 main_v35
  fn_part2 (F := F) main_arg11 main_arg12 main_arg13 main_arg14 main_v4 main_v6 main_v9 main_v12 main_v15 main_v18 main_v21 main_v24 main_v27 main_v30 main_v33 main_v36

def fn {F : FTy → Type} [FloatOps F] (main_arg0 : FVec F S100000x78 .f32) (main_arg1 : FVec F S7x4 .f32) (main_arg2 : FVec F S7x4 .f32) (main_arg3 : FVec F S2x4 .f32) (main_arg4 : FVec F S8x4 .f32) (main_arg5 : FVec F S2x4 .f32) (main_arg6 : FVec F S6x4 .f32) (main_arg7 : FVec F S5x4 .f32) (main_arg8 : FVec F S18x2x2 .f32) (main_arg9 : FVec F S2x2 .f32) (main_arg10 : FVec F S2x2 .f32) (main_arg11 : FVec F S7x4 .f32) (main_arg12 : FVec F S5x4 .f32) (main_arg13 : FVec F S8x4 .f32) (main_arg14 : FVec F S36x4 .f32) (main_arg15 : FVec F S4 .f32) (main_arg16 : FVec F S48x16 .f32) (main_arg17 : FVec F S16 .f32) : IVec S100000x30 1 × IVec S100000x1 1 × IVec S7x4 1 × IVec S7x4 1 × IVec S2x4 1 × IVec S8x4 1 × IVec S2x4 1 × IVec S6x4 1 × IVec S5x4 1 × IVec S18x2x2 1 × IVec S2x2 1 × IVec S2x2 1 × IVec S7x4 1 × IVec S5x4 1 × IVec S8x4 1 × IVec S36x4 1 :=
  let main_v0 : FVec F S100000x30 .f32 := (extractStridedSlice S100000x30 ![0, 0] · slices_S100000x78_S100000x30_0_0) main_arg0
  let main_v1 : IVec S100000x30 32 := fptosi 32 main_v0
  let main_v2 : IVec S100000x1 32 := (extractStridedSlice S100000x1 ![0, 5] · slices_S100000x30_S100000x1_0_5) main_v1
  let main_v3 : FVec F S100000x30 .f32 := sitofp .f32 main_v1
  let main_v4 : IVec S100000x30 1 := cmpf .oeq main_v3 main_v0
  let main_c : IVec S_ 32 := constantI S_ 32 2147483647#32
  let main_v5 : IVec S100000x1 32 := broadcastInDim S100000x1 ![] bcast_S_S100000x1 main_c
  let main_v6 : IVec S100000x1 1 := cmpi .slt main_v2 main_v5
  let main_v7 : FVec F S7x4 .f32 := subf main_arg1 main_arg1
  let main_cst : FVec F S_ .f32 := constant S_ .f32 0x00000000#32
  let main_v8 : FVec F S7x4 .f32 := broadcastInDim S7x4 ![] bcast_S_S7x4 main_cst
  let main_v9 : IVec S7x4 1 := cmpf .oeq main_v7 main_v8
  let main_v10 : FVec F S7x4 .f32 := subf main_arg2 main_arg2
  let main_cst_0 : FVec F S_ .f32 := constant S_ .f32 0x00000000#32
  let main_v11 : FVec F S7x4 .f32 := broadcastInDim S7x4 ![] bcast_S_S7x4 main_cst_0
  let main_v12 : IVec S7x4 1 := cmpf .oeq main_v10 main_v11
  let main_v13 : FVec F S2x4 .f32 := subf main_arg3 main_arg3
  let main_cst_1 : FVec F S_ .f32 := constant S_ .f32 0x00000000#32
  let main_v14 : FVec F S2x4 .f32 := broadcastInDim S2x4 ![] bcast_S_S2x4 main_cst_1
  let main_v15 : IVec S2x4 1 := cmpf .oeq main_v13 main_v14
  let main_v16 : FVec F S8x4 .f32 := subf main_arg4 main_arg4
  let main_cst_2 : FVec F S_ .f32 := constant S_ .f32 0x00000000#32
  let main_v17 : FVec F S8x4 .f32 := broadcastInDim S8x4 ![] bcast_S_S8x4 main_cst_2
  let main_v18 : IVec S8x4 1 := cmpf .oeq main_v16 main_v17
  fn_part1 (F := F) main_arg5 main_arg6 main_arg7 main_arg8 main_arg9 main_arg10 main_arg11 main_arg12 main_arg13 main_arg14 main_v4 main_v6 main_v9 main_v12 main_v15 main_v18
-- ==== Kernel.lean ====
abbrev S100000x78 : Shape := ⟨2, ![100000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S36x4 : Shape := ⟨2, ![36, 4]⟩
abbrev S4 : Shape := ⟨1, ![4]⟩
abbrev S48x16 : Shape := ⟨2, ![48, 16]⟩
abbrev S16 : Shape := ⟨1, ![16]⟩
abbrev S78x128 : Shape := ⟨2, ![78, 128]⟩
abbrev S1x128 : Shape := ⟨2, ![1, 128]⟩
abbrev S128x152 : Shape := ⟨2, ![128, 152]⟩
abbrev S1x152 : Shape := ⟨2, ![1, 152]⟩
abbrev S18x2x4 : Shape := ⟨3, ![18, 2, 4]⟩
abbrev S_ : Shape := ⟨0, ![]⟩
abbrev S28 : Shape := ⟨1, ![28]⟩
abbrev S64 : Shape := ⟨1, ![64]⟩
abbrev S1x64 : Shape := ⟨2, ![1, 64]⟩
abbrev S100000x64 : Shape := ⟨2, ![100000, 64]⟩
abbrev S20000x78 : Shape := ⟨2, ![20000, 78]⟩
abbrev S20000x64 : Shape := ⟨2, ![20000, 64]⟩
abbrev S152x64 : Shape := ⟨2, ![152, 64]⟩
abbrev S128x64 : Shape := ⟨2, ![128, 64]⟩
abbrev S80x64 : Shape := ⟨2, ![80, 64]⟩
abbrev S20000x128 : Shape := ⟨2, ![20000, 128]⟩
abbrev S78x64 : Shape := ⟨2, ![78, 64]⟩

abbrev nBuf : Space → Nat
  | .hbm => 32
  | .vmem => 27
  | .smem => 0
  | _ => 0

abbrev bufTy : (tb : Table) → Fin (tcTables nBuf tb) → BufTy
  | .hbm, ⟨0, _⟩ => ⟨S100000x78, .f32⟩
  | .hbm, ⟨1, _⟩ => ⟨S7x4, .f32⟩
  | .hbm, ⟨2, _⟩ => ⟨S7x4, .f32⟩
  | .hbm, ⟨3, _⟩ => ⟨S2x4, .f32⟩
  | .hbm, ⟨4, _⟩ => ⟨S8x4, .f32⟩
  | .hbm, ⟨5, _⟩ => ⟨S2x4, .f32⟩
  | .hbm, ⟨6, _⟩ => ⟨S6x4, .f32⟩
  | .hbm, ⟨7, _⟩ => ⟨S5x4, .f32⟩
  | .hbm, ⟨8, _⟩ => ⟨S18x2x2, .f32⟩
  | .hbm, ⟨9, _⟩ => ⟨S2x2, .f32⟩
  | .hbm, ⟨10, _⟩ => ⟨S2x2, .f32⟩
  | .hbm, ⟨11, _⟩ => ⟨S7x4, .f32⟩
  | .hbm, ⟨12, _⟩ => ⟨S5x4, .f32⟩
  | .hbm, ⟨13, _⟩ => ⟨S8x4, .f32⟩
  | .hbm, ⟨14, _⟩ => ⟨S36x4, .f32⟩
  | .hbm, ⟨15, _⟩ => ⟨S4, .f32⟩
  | .hbm, ⟨16, _⟩ => ⟨S48x16, .f32⟩
  | .hbm, ⟨17, _⟩ => ⟨S16, .f32⟩
  | .hbm, ⟨18, _⟩ => ⟨S78x128, .f32⟩
  | .hbm, ⟨19, _⟩ => ⟨S1x128, .f32⟩
  | .hbm, ⟨20, _⟩ => ⟨S128x152, .f32⟩
  | .hbm, ⟨21, _⟩ => ⟨S1x152, .f32⟩
  | .hbm, ⟨22, _⟩ => ⟨S18x2x4, .f32⟩
  | .hbm, ⟨23, _⟩ => ⟨S18x2x4, .f32⟩
  | .hbm, ⟨24, _⟩ => ⟨S36x4, .f32⟩
  | .hbm, ⟨25, _⟩ => ⟨S_, .f32⟩
  | .hbm, ⟨26, _⟩ => ⟨S28, .f32⟩
  | .hbm, ⟨27, _⟩ => ⟨S_, .f32⟩
  | .hbm, ⟨28, _⟩ => ⟨S16, .f32⟩
  | .hbm, ⟨29, _⟩ => ⟨S64, .f32⟩
  | .hbm, ⟨30, _⟩ => ⟨S1x64, .f32⟩
  | .hbm, ⟨31, _⟩ => ⟨S100000x64, .f32⟩
  | .local _ .vmem, ⟨0, _⟩ => ⟨S20000x78, .f32⟩
  | .local _ .vmem, ⟨1, _⟩ => ⟨S20000x78, .f32⟩
  | .local _ .vmem, ⟨2, _⟩ => ⟨S78x128, .f32⟩
  | .local _ .vmem, ⟨3, _⟩ => ⟨S1x128, .f32⟩
  | .local _ .vmem, ⟨4, _⟩ => ⟨S128x152, .f32⟩
  | .local _ .vmem, ⟨5, _⟩ => ⟨S1x152, .f32⟩
  | .local _ .vmem, ⟨6, _⟩ => ⟨S1x64, .f32⟩
  | .local _ .vmem, ⟨7, _⟩ => ⟨S7x4, .f32⟩
  | .local _ .vmem, ⟨8, _⟩ => ⟨S7x4, .f32⟩
  | .local _ .vmem, ⟨9, _⟩ => ⟨S2x4, .f32⟩
  | .local _ .vmem, ⟨10, _⟩ => ⟨S8x4, .f32⟩
  | .local _ .vmem, ⟨11, _⟩ => ⟨S2x4, .f32⟩
  | .local _ .vmem, ⟨12, _⟩ => ⟨S6x4, .f32⟩
  | .local _ .vmem, ⟨13, _⟩ => ⟨S5x4, .f32⟩
  | .local _ .vmem, ⟨14, _⟩ => ⟨S36x4, .f32⟩
  | .local _ .vmem, ⟨15, _⟩ => ⟨S2x2, .f32⟩
  | .local _ .vmem, ⟨16, _⟩ => ⟨S2x2, .f32⟩
  | .local _ .vmem, ⟨17, _⟩ => ⟨S7x4, .f32⟩
  | .local _ .vmem, ⟨18, _⟩ => ⟨S5x4, .f32⟩
  | .local _ .vmem, ⟨19, _⟩ => ⟨S8x4, .f32⟩
  | .local _ .vmem, ⟨20, _⟩ => ⟨S48x16, .f32⟩
  | .local _ .vmem, ⟨21, _⟩ => ⟨S20000x64, .f32⟩
  | .local _ .vmem, ⟨22, _⟩ => ⟨S20000x64, .f32⟩
  | .local _ .vmem, ⟨23, _⟩ => ⟨S152x64, .f32⟩
  | .local _ .vmem, ⟨24, _⟩ => ⟨S128x64, .f32⟩
  | .local _ .vmem, ⟨25, _⟩ => ⟨S80x64, .f32⟩
  | .local _ .vmem, ⟨26, _⟩ => ⟨S1x64, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_cst_2 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst_3 : Ref sig .tc := ⟨.hbm, 25, rfl⟩
abbrev main_v3 : Ref sig .tc := ⟨.hbm, 26, rfl⟩
abbrev main_cst_4 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S36x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S7x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S5x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S48x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S20000x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S100000x78 : Shape := ⟨2, ![100000, 78]⟩
abbrev S7x4 : Shape := ⟨2, ![7, 4]⟩
abbrev S2x4 : Shape := ⟨2, ![2, 4]⟩
abbrev S8x4 : Shape := ⟨2, ![8, 4]⟩
abbrev S6x4 : Shape := ⟨2, ![6, 4]⟩
abbrev S5x4 : Shape := ⟨2, ![5, 4]⟩
abbrev S18x2x2 : Shape := ⟨3, ![18, 2, 2]⟩
abbrev S2x2 : Shape := ⟨2, ![2, 2]⟩
abbrev S36x4 : Shape := ⟨2, ![36, 4]⟩
abbrev S4 : Shape := ⟨1, ![4]⟩
abbrev S48x16 : Shape := ⟨2, ![48, 16]⟩
abbrev S16 : Shape := ⟨1, ![16]⟩
abbrev S17 : Shape := ⟨1, ![17]⟩
abbrev S100000x1 : Shape := ⟨2, ![100000, 1]⟩
abbrev S100000 : Shape := ⟨1, ![100000]⟩
abbrev S_ : Shape := ⟨0, ![]⟩
abbrev S100000x4 : Shape := ⟨2, ![100000, 4]⟩
abbrev S100000x18 : Shape := ⟨2, ![100000, 18]⟩
abbrev S18 : Shape := ⟨1, ![18]⟩
abbrev S100000x18x1 : Shape := ⟨3, ![100000, 18, 1]⟩
abbrev S100000x18x2 : Shape := ⟨3, ![100000, 18, 2]⟩
abbrev S100000x36 : Shape := ⟨2, ![100000, 36]⟩
abbrev S1x4 : Shape := ⟨2, ![1, 4]⟩
abbrev S100000x2 : Shape := ⟨2, ![100000, 2]⟩
abbrev S100000x48 : Shape := ⟨2, ![100000, 48]⟩
abbrev S100000x16 : Shape := ⟨2, ![100000, 16]⟩
abbrev S1x16 : Shape := ⟨2, ![1, 16]⟩
abbrev S100000x64 : Shape := ⟨2, ![100000, 64]⟩

abbrev nBuf : Space → Nat
  | .hbm => 362
  | .vmem => 0
  | .smem => 0
  | _ => 0

abbrev hbmTy0_0 (i : Nat) : BufTy := match i % 128 with
  | 0 => ⟨S100000x78, .f32⟩
  | 1 => ⟨S7x4, .f32⟩
  | 2 => ⟨S7x4, .f32⟩
  | 3 => ⟨S2x4, .f32⟩
  | 4 => ⟨S8x4, .f32⟩
  | 5 => ⟨S2x4, .f32⟩
  | 6 => ⟨S6x4, .f32⟩
  | 7 => ⟨S5x4, .f32⟩
  | 8 => ⟨S18x2x2, .f32⟩
  | 9 => ⟨S2x2, .f32⟩
  | 10 => ⟨S2x2, .f32⟩
  | 11 => ⟨S7x4, .f32⟩
  | 12 => ⟨S5x4, .f32⟩
  | 13 => ⟨S8x4, .f32⟩
  | 14 => ⟨S36x4, .f32⟩
  | 15 => ⟨S4, .f32⟩
  | 16 => ⟨S48x16, .f32⟩
  | 17 => ⟨S16, .f32⟩
  | 18 => ⟨S17, .i32⟩
  | 19 => ⟨S100000x78, .i32⟩
  | 20 => ⟨S100000x1, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i1⟩
  | 28 => ⟨S100000, .i1⟩
  | 29 => ⟨S_, .i32⟩
  | 30 => ⟨S_, .i32⟩
  | 31 => ⟨S100000, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .i32⟩
  | 42 => ⟨S_, .i32⟩
  | 43 => ⟨S_, .i32⟩
  | 44 => ⟨S_, .i32⟩
  | 45 => ⟨S100000, .i32⟩
  | 46 => ⟨S100000, .i32⟩
  | 47 => ⟨S_, .i32⟩
  | 48 => ⟨S100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x4, .f32⟩
  | 59 => ⟨S100000x1, .i32⟩
  | 60 => ⟨S100000, .i32⟩
  | 61 => ⟨S_, .i32⟩
  | 62 => ⟨S_, .i32⟩
  | 63 => ⟨S_, .i32⟩
  | 64 => ⟨S100000, .i32⟩
  | 65 => ⟨S100000, .i32⟩
  | 66 => ⟨S_, .i32⟩
  | 67 => ⟨S100000, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x4, .f32⟩
  | 78 => ⟨S100000x1, .i32⟩
  | 79 => ⟨S100000, .i32⟩
  | 80 => ⟨S_, .i32⟩
  | 81 => ⟨S100000, .i32⟩
  | 82 => ⟨S100000, .i32⟩
  | 83 => ⟨S_, .i32⟩
  | 84 => ⟨S_, .i32⟩
  | 85 => ⟨S_, .i32⟩
  | 86 => ⟨S100000, .i32⟩
  | 87 => ⟨S100000, .i32⟩
  | 88 => ⟨S_, .i32⟩
  | 89 => ⟨S100000, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x4, .f32⟩
  | 100 => ⟨S100000x1, .i32⟩
  | 101 => ⟨S100000, .i32⟩
  | 102 => ⟨S_, .i32⟩
  | 103 => ⟨S_, .i32⟩
  | 104 => ⟨S_, .i32⟩
  | 105 => ⟨S100000, .i32⟩
  | 106 => ⟨S100000, .i32⟩
  | 107 => ⟨S_, .i32⟩
  | 108 => ⟨S100000, .i32⟩
  | 109 => ⟨S100000, .i32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000x4, .f32⟩
  | 119 => ⟨S100000x1, .i32⟩
  | 120 => ⟨S100000, .i32⟩
  | 121 => ⟨S_, .i32⟩
  | 122 => ⟨S_, .i32⟩
  | 123 => ⟨S_, .i32⟩
  | 124 => ⟨S100000, .i32⟩
  | 125 => ⟨S100000, .i32⟩
  | 126 => ⟨S_, .i32⟩
  | 127 => ⟨S100000, .i32⟩
  | _ => ⟨S100000x78, .f32⟩

abbrev hbmTy0_1 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x4, .f32⟩
  | 10 => ⟨S100000x1, .i32⟩
  | 11 => ⟨S100000, .i32⟩
  | 12 => ⟨S_, .i32⟩
  | 13 => ⟨S_, .i32⟩
  | 14 => ⟨S_, .i32⟩
  | 15 => ⟨S100000, .i32⟩
  | 16 => ⟨S100000, .i32⟩
  | 17 => ⟨S_, .i32⟩
  | 18 => ⟨S100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x4, .f32⟩
  | 29 => ⟨S100000x1, .i32⟩
  | 30 => ⟨S100000, .i32⟩
  | 31 => ⟨S_, .i32⟩
  | 32 => ⟨S_, .i32⟩
  | 33 => ⟨S_, .i32⟩
  | 34 => ⟨S100000, .i32⟩
  | 35 => ⟨S100000, .i32⟩
  | 36 => ⟨S_, .i32⟩
  | 37 => ⟨S100000, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x4, .f32⟩
  | 48 => ⟨S100000x18, .i32⟩
  | 49 => ⟨S_, .i32⟩
  | 50 => ⟨S_, .i32⟩
  | 51 => ⟨S_, .i32⟩
  | 52 => ⟨S100000x18, .i32⟩
  | 53 => ⟨S100000x18, .i32⟩
  | 54 => ⟨S_, .i32⟩
  | 55 => ⟨S100000x18, .i32⟩
  | 56 => ⟨S100000x18, .i32⟩
  | 57 => ⟨S18, .i32⟩
  | 58 => ⟨S_, .i32⟩
  | 59 => ⟨S18, .i32⟩
  | 60 => ⟨S18, .i1⟩
  | 61 => ⟨S_, .i32⟩
  | 62 => ⟨S18, .i32⟩
  | 63 => ⟨S18, .i32⟩
  | 64 => ⟨S18, .i32⟩
  | 65 => ⟨S_, .i32⟩
  | 66 => ⟨S100000x18, .i32⟩
  | 67 => ⟨S100000x18, .i1⟩
  | 68 => ⟨S_, .i32⟩
  | 69 => ⟨S100000x18, .i32⟩
  | 70 => ⟨S100000x18, .i32⟩
  | 71 => ⟨S100000x18, .i32⟩
  | 72 => ⟨S100000x18, .i32⟩
  | 73 => ⟨S100000x18x1, .i32⟩
  | 74 => ⟨S100000x18x1, .i32⟩
  | 75 => ⟨S100000x18x2, .i32⟩
  | 76 => ⟨S100000x18x2, .f32⟩
  | 77 => ⟨S100000x36, .f32⟩
  | 78 => ⟨S100000x4, .f32⟩
  | 79 => ⟨S1x4, .f32⟩
  | 80 => ⟨S100000x4, .f32⟩
  | 81 => ⟨S100000x4, .f32⟩
  | 82 => ⟨S100000x1, .i32⟩
  | 83 => ⟨S100000, .i32⟩
  | 84 => ⟨S_, .i32⟩
  | 85 => ⟨S_, .i32⟩
  | 86 => ⟨S_, .i32⟩
  | 87 => ⟨S100000, .i32⟩
  | 88 => ⟨S100000, .i32⟩
  | 89 => ⟨S_, .i32⟩
  | 90 => ⟨S100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000x2, .f32⟩
  | 101 => ⟨S100000x1, .i32⟩
  | 102 => ⟨S100000, .i32⟩
  | 103 => ⟨S_, .i32⟩
  | 104 => ⟨S_, .i32⟩
  | 105 => ⟨S_, .i32⟩
  | 106 => ⟨S100000, .i32⟩
  | 107 => ⟨S100000, .i32⟩
  | 108 => ⟨S_, .i32⟩
  | 109 => ⟨S100000, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x2, .f32⟩
  | 120 => ⟨S100000x1, .i32⟩
  | 121 => ⟨S100000, .i32⟩
  | 122 => ⟨S_, .i32⟩
  | 123 => ⟨S100000, .i32⟩
  | 124 => ⟨S_, .i32⟩
  | 125 => ⟨S100000, .i32⟩
  | 126 => ⟨S100000, .i1⟩
  | 127 => ⟨S_, .i32⟩
  | _ => ⟨S100000x78, .f32⟩

abbrev hbmTy0_2 (i : Nat) : BufTy := match i % 128 with
  | 0 => ⟨S_, .i32⟩
  | 1 => ⟨S100000, .i32⟩
  | 2 => ⟨S100000, .i32⟩
  | 3 => ⟨S_, .i32⟩
  | 4 => ⟨S100000, .i32⟩
  | 5 => ⟨S100000, .i1⟩
  | 6 => ⟨S_, .i32⟩
  | 7 => ⟨S_, .i32⟩
  | 8 => ⟨S100000, .i32⟩
  | 9 => ⟨S100000, .i32⟩
  | 10 => ⟨S_, .i32⟩
  | 11 => ⟨S100000, .i32⟩
  | 12 => ⟨S100000, .i1⟩
  | 13 => ⟨S_, .i32⟩
  | 14 => ⟨S_, .i32⟩
  | 15 => ⟨S100000, .i32⟩
  | 16 => ⟨S100000, .i32⟩
  | 17 => ⟨S_, .i32⟩
  | 18 => ⟨S100000, .i32⟩
  | 19 => ⟨S100000, .i1⟩
  | 20 => ⟨S_, .i32⟩
  | 21 => ⟨S_, .i32⟩
  | 22 => ⟨S100000, .i32⟩
  | 23 => ⟨S100000, .i32⟩
  | 24 => ⟨S_, .i32⟩
  | 25 => ⟨S100000, .i32⟩
  | 26 => ⟨S100000, .i1⟩
  | 27 => ⟨S_, .i32⟩
  | 28 => ⟨S_, .i32⟩
  | 29 => ⟨S100000, .i32⟩
  | 30 => ⟨S100000, .i32⟩
  | 31 => ⟨S_, .i32⟩
  | 32 => ⟨S100000, .i32⟩
  | 33 => ⟨S100000, .i1⟩
  | 34 => ⟨S_, .i32⟩
  | 35 => ⟨S_, .i32⟩
  | 36 => ⟨S100000, .i32⟩
  | 37 => ⟨S100000, .i32⟩
  | 38 => ⟨S_, .i32⟩
  | 39 => ⟨S100000, .i32⟩
  | 40 => ⟨S100000, .i1⟩
  | 41 => ⟨S_, .i32⟩
  | 42 => ⟨S_, .i32⟩
  | 43 => ⟨S100000, .i32⟩
  | 44 => ⟨S100000, .i32⟩
  | 45 => ⟨S_, .i32⟩
  | 46 => ⟨S_, .i32⟩
  | 47 => ⟨S_, .i32⟩
  | 48 => ⟨S100000, .i32⟩
  | 49 => ⟨S100000, .i32⟩
  | 50 => ⟨S_, .i32⟩
  | 51 => ⟨S100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x4, .f32⟩
  | 62 => ⟨S100000x1, .i32⟩
  | 63 => ⟨S100000, .i32⟩
  | 64 => ⟨S_, .i32⟩
  | 65 => ⟨S_, .i32⟩
  | 66 => ⟨S_, .i32⟩
  | 67 => ⟨S100000, .i32⟩
  | 68 => ⟨S100000, .i32⟩
  | 69 => ⟨S_, .i32⟩
  | 70 => ⟨S100000, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x4, .f32⟩
  | 81 => ⟨S100000x1, .i32⟩
  | 82 => ⟨S100000, .i32⟩
  | 83 => ⟨S_, .i32⟩
  | 84 => ⟨S_, .i32⟩
  | 85 => ⟨S_, .i32⟩
  | 86 => ⟨S100000, .i32⟩
  | 87 => ⟨S100000, .i32⟩
  | 88 => ⟨S_, .i32⟩
  | 89 => ⟨S100000, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x4, .f32⟩
  | 100 => ⟨S100000x48, .f32⟩
  | 101 => ⟨S100000x16, .f32⟩
  | 102 => ⟨S1x16, .f32⟩
  | 103 => ⟨S100000x16, .f32⟩
  | 104 => ⟨S100000x16, .f32⟩
  | 105 => ⟨S100000x64, .f32⟩
  | _ => ⟨S100000x78, .f32⟩

abbrev hbmTy (i : Nat) : BufTy := match i / 128 with
  | 0 => hbmTy0_0 i
  | 1 => hbmTy0_1 i
  | 2 => hbmTy0_2 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_c_4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_5 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v16 : Ref sig .tc := ⟨.hbm, 49, rfl⟩
abbrev main_c_7 : Ref sig .tc := ⟨.hbm, 50, rfl⟩
abbrev main_v17 : Ref sig .tc := ⟨.hbm, 51, rfl⟩
abbrev main_v18 : Ref sig .tc := ⟨.hbm, 52, rfl⟩
abbrev main_c_8 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_9 : Ref sig .tc := ⟨.hbm, 61, rfl⟩
abbrev main_c_10 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v26 : Ref sig .tc := ⟨.hbm, 68, rfl⟩
abbrev main_c_11 : Ref sig .tc := ⟨.hbm, 69, rfl⟩
abbrev main_v27 : Ref sig .tc := ⟨.hbm, 70, rfl⟩
abbrev main_v28 : Ref sig .tc := ⟨.hbm, 71, rfl⟩
abbrev main_c_12 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_13 : Ref sig .tc := ⟨.hbm, 80, rfl⟩
abbrev main_v36 : Ref sig .tc := ⟨.hbm, 81, rfl⟩
abbrev main_v37 : Ref sig .tc := ⟨.hbm, 82, rfl⟩
abbrev main_c_14 : Ref sig .tc := ⟨.hbm, 83, rfl⟩
abbrev main_c_15 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v38 : Ref sig .tc := ⟨.hbm, 90, rfl⟩
abbrev main_c_16 : Ref sig .tc := ⟨.hbm, 91, rfl⟩
abbrev main_v39 : Ref sig .tc := ⟨.hbm, 92, rfl⟩
abbrev main_v40 : Ref sig .tc := ⟨.hbm, 93, rfl⟩
abbrev main_c_17 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_c_18 : Ref sig .tc := ⟨.hbm, 102, rfl⟩
abbrev main_c_19 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v48 : Ref sig .tc := ⟨.hbm, 109, rfl⟩
abbrev main_c_20 : Ref sig .tc := ⟨.hbm, 110, rfl⟩
abbrev main_v49 : Ref sig .tc := ⟨.hbm, 111, rfl⟩
abbrev main_v50 : Ref sig .tc := ⟨.hbm, 112, rfl⟩
abbrev main_c_21 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_c_22 : Ref sig .tc := ⟨.hbm, 121, rfl⟩
abbrev main_c_23 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v58 : Ref sig .tc := ⟨.hbm, 128, rfl⟩
abbrev main_c_24 : Ref sig .tc := ⟨.hbm, 129, rfl⟩
abbrev main_v59 : Ref sig .tc := ⟨.hbm, 130, rfl⟩
abbrev main_v60 : Ref sig .tc := ⟨.hbm, 131, rfl⟩
abbrev main_c_25 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_c_26 : Ref sig .tc := ⟨.hbm, 140, rfl⟩
abbrev main_c_27 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_v68 : Ref sig .tc := ⟨.hbm, 147, rfl⟩
abbrev main_c_28 : Ref sig .tc := ⟨.hbm, 148, rfl⟩
abbrev main_v69 : Ref sig .tc := ⟨.hbm, 149, rfl⟩
abbrev main_v70 : Ref sig .tc := ⟨.hbm, 150, rfl⟩
abbrev main_c_29 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_c_30 : Ref sig .tc := ⟨.hbm, 159, rfl⟩
abbrev main_c_31 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_v78 : Ref sig .tc := ⟨.hbm, 166, rfl⟩
abbrev main_c_32 : Ref sig .tc := ⟨.hbm, 167, rfl⟩
abbrev main_v79 : Ref sig .tc := ⟨.hbm, 168, rfl⟩
abbrev main_v80 : Ref sig .tc := ⟨.hbm, 169, rfl⟩
abbrev main_c_33 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_c_34 : Ref sig .tc := ⟨.hbm, 177, rfl⟩
abbrev main_c_35 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_v87 : Ref sig .tc := ⟨.hbm, 184, rfl⟩
abbrev main_v88 : Ref sig .tc := ⟨.hbm, 185, rfl⟩
abbrev main_c_36 : Ref sig .tc := ⟨.hbm, 186, rfl⟩
abbrev main_v89 : Ref sig .tc := ⟨.hbm, 187, rfl⟩
abbrev main_v90 : Ref sig .tc := ⟨.hbm, 188, rfl⟩
abbrev main_c_37 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_c_38 : Ref sig .tc := ⟨.hbm, 193, rfl⟩
abbrev main_v94 : Ref sig .tc := ⟨.hbm, 194, rfl⟩
abbrev main_v95 : Ref sig .tc := ⟨.hbm, 195, rfl⟩
abbrev main_c_39 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_c_40 : Ref sig .tc := ⟨.hbm, 212, rfl⟩
abbrev main_c_41 : Ref sig .tc := ⟨.hbm, 213, rfl⟩
abbrev main_call9_v0 : Ref sig .tc := ⟨.hbm, 214, rfl⟩
abbrev main_call9_v1 : Ref sig .tc := ⟨.hbm, 215, rfl⟩
abbrev main_call9_v2 : Ref sig .tc := ⟨.hbm, 216, rfl⟩
abbrev main_call9_v3 : Ref sig .tc := ⟨.hbm, 217, rfl⟩
abbrev main_call9_v4 : Ref sig .tc := ⟨.hbm, 218, rfl⟩
abbrev main_v111 : Ref sig .tc := ⟨.hbm, 219, rfl⟩
abbrev main_c_42 : Ref sig .tc := ⟨.hbm, 220, rfl⟩
abbrev main_v112 : Ref sig .tc := ⟨.hbm, 221, rfl⟩
abbrev main_v113 : Ref sig .tc := ⟨.hbm, 222, rfl⟩
abbrev main_c_43 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_c_44 : Ref sig .tc := ⟨.hbm, 231, rfl⟩
abbrev main_c_45 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_call10_v3 : Ref sig .tc := ⟨.hbm, 236, rfl⟩
abbrev main_call10_v4 : Ref sig .tc := ⟨.hbm, 237, rfl⟩
abbrev main_v121 : Ref sig .tc := ⟨.hbm, 238, rfl⟩
abbrev main_c_46 : Ref sig .tc := ⟨.hbm, 239, rfl⟩
abbrev main_v122 : Ref sig .tc := ⟨.hbm, 240, rfl⟩
abbrev main_v123 : Ref sig .tc := ⟨.hbm, 241, rfl⟩
abbrev main_c_47 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_c_48 : Ref sig .tc := ⟨.hbm, 250, rfl⟩
abbrev main_v131 : Ref sig .tc := ⟨.hbm, 251, rfl⟩
abbrev main_c_49 : Ref sig .tc := ⟨.hbm, 252, rfl⟩
abbrev main_v132 : Ref sig .tc := ⟨.hbm, 253, rfl⟩
abbrev main_v133 : Ref sig .tc := ⟨.hbm, 254, rfl⟩
abbrev main_c_50 : Ref sig .tc := ⟨.hbm, 255, rfl⟩
abbrev main_call11_v0 : Ref sig .tc := ⟨.hbm, 256, rfl⟩
abbrev main_call11_v1 : Ref sig .tc := ⟨.hbm, 257, rfl⟩
abbrev main_v134 : Ref sig .tc := ⟨.hbm, 258, rfl⟩
abbrev main_c_51 : Ref sig .tc := ⟨.hbm, 259, rfl⟩
abbrev main_v135 : Ref sig .tc := ⟨.hbm, 260, rfl⟩
abbrev main_v136 : Ref sig .tc := ⟨.hbm, 261, rfl⟩
abbrev main_c_52 : Ref sig .tc := ⟨.hbm, 262, rfl⟩
abbrev main_call12_v0 : Ref sig .tc := ⟨.hbm, 263, rfl⟩
abbrev main_call12_v1 : Ref sig .tc := ⟨.hbm, 264, rfl⟩
abbrev main_v137 : Ref sig .tc := ⟨.hbm, 265, rfl⟩
abbrev main_c_53 : Ref sig .tc := ⟨.hbm, 266, rfl⟩
abbrev main_v138 : Ref sig .tc := ⟨.hbm, 267, rfl⟩
abbrev main_v139 : Ref sig .tc := ⟨.hbm, 268, rfl⟩
abbrev main_c_54 : Ref sig .tc := ⟨.hbm, 269, rfl⟩
abbrev main_call13_v0 : Ref sig .tc := ⟨.hbm, 270, rfl⟩
abbrev main_call13_v1 : Ref sig .tc := ⟨.hbm, 271, rfl⟩
abbrev main_v140 : Ref sig .tc := ⟨.hbm, 272, rfl⟩
abbrev main_c_55 : Ref sig .tc := ⟨.hbm, 273, rfl⟩
abbrev main_v141 : Ref sig .tc := ⟨.hbm, 274, rfl⟩
abbrev main_v142 : Ref sig .tc := ⟨.hbm, 275, rfl⟩
abbrev main_c_56 : Ref sig .tc := ⟨.hbm, 276, rfl⟩
abbrev main_call14_v0 : Ref sig .tc := ⟨.hbm, 277, rfl⟩
abbrev main_call14_v1 : Ref sig .tc := ⟨.hbm, 278, rfl⟩
abbrev main_v143 : Ref sig .tc := ⟨.hbm, 279, rfl⟩
abbrev main_c_57 : Ref sig .tc := ⟨.hbm, 280, rfl⟩
abbrev main_v144 : Ref sig .tc := ⟨.hbm, 281, rfl⟩
abbrev main_v145 : Ref sig .tc := ⟨.hbm, 282, rfl⟩
abbrev main_c_58 : Ref sig .tc := ⟨.hbm, 283, rfl⟩
abbrev main_call15_v0 : Ref sig .tc := ⟨.hbm, 284, rfl⟩
abbrev main_call15_v1 : Ref sig .tc := ⟨.hbm, 285, rfl⟩
abbrev main_v146 : Ref sig .tc := ⟨.hbm, 286, rfl⟩
abbrev main_c_59 : Ref sig .tc := ⟨.hbm, 287, rfl⟩
abbrev main_v147 : Ref sig .tc := ⟨.hbm, 288, rfl⟩
abbrev main_v148 : Ref sig .tc := ⟨.hbm, 289, rfl⟩
abbrev main_c_60 : Ref sig .tc := ⟨.hbm, 290, rfl⟩
abbrev main_call16_v0 : Ref sig .tc := ⟨.hbm, 291, rfl⟩
abbrev main_call16_v1 : Ref sig .tc := ⟨.hbm, 292, rfl⟩
abbrev main_v149 : Ref sig .tc := ⟨.hbm, 293, rfl⟩
abbrev main_c_61 : Ref sig .tc := ⟨.hbm, 294, rfl⟩
abbrev main_v150 : Ref sig .tc := ⟨.hbm, 295, rfl⟩
abbrev main_v151 : Ref sig .tc := ⟨.hbm, 296, rfl⟩
abbrev main_c_62 : Ref sig .tc := ⟨.hbm, 297, rfl⟩
abbrev main_call17_v0 : Ref sig .tc := ⟨.hbm, 298, rfl⟩
abbrev main_call17_v1 : Ref sig .tc := ⟨.hbm, 299, rfl⟩
abbrev main_v152 : Ref sig .tc := ⟨.hbm, 300, rfl⟩
abbrev main_c_63 : Ref sig .tc := ⟨.hbm, 301, rfl⟩
abbrev main_c_64 : Ref sig .tc := ⟨.hbm, 302, rfl⟩
abbrev main_call18_v0 : Ref sig .tc := ⟨.hbm, 303, rfl⟩
abbrev main_call18_v1 : Ref sig .tc := ⟨.hbm, 304, rfl⟩
abbrev main_call18_v2 : Ref sig .tc := ⟨.hbm, 305, rfl⟩
abbrev main_call18_v3 : Ref sig .tc := ⟨.hbm, 306, rfl⟩
abbrev main_call18_v4 : Ref sig .tc := ⟨.hbm, 307, rfl⟩
abbrev main_v153 : Ref sig .tc := ⟨.hbm, 308, rfl⟩
abbrev main_c_65 : Ref sig .tc := ⟨.hbm, 309, rfl⟩
abbrev main_v154 : Ref sig .tc := ⟨.hbm, 310, rfl⟩
abbrev main_v155 : Ref sig .tc := ⟨.hbm, 311, rfl⟩
abbrev main_c_66 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_c_67 : Ref sig .tc := ⟨.hbm, 320, rfl⟩
abbrev main_c_68 : Ref sig .tc := ⟨.hbm, 321, rfl⟩
abbrev main_call19_v0 : Ref sig .tc := ⟨.hbm, 322, rfl⟩
abbrev main_call19_v1 : Ref sig .tc := ⟨.hbm, 323, rfl⟩
abbrev main_call19_v2 : Ref sig .tc := ⟨.hbm, 324, rfl⟩
abbrev main_call19_v3 : Ref sig .tc := ⟨.hbm, 325, rfl⟩
abbrev main_call19_v4 : Ref sig .tc := ⟨.hbm, 326, rfl⟩
abbrev main_v163 : Ref sig .tc := ⟨.hbm, 327, rfl⟩
abbrev main_c_69 : Ref sig .tc := ⟨.hbm, 328, rfl⟩
abbrev main_v164 : Ref sig .tc := ⟨.hbm, 329, rfl⟩
abbrev main_v165 : Ref sig .tc := ⟨.hbm, 330, rfl⟩
abbrev main_c_70 : Ref sig .tc := ⟨.hbm, 331, rfl⟩
abbrev main_v166 : Ref sig .tc := ⟨.hbm, 332, rfl⟩
abbrev main_v167 : Ref sig .tc := ⟨.hbm, 333, rfl⟩
abbrev main_v168 : Ref sig .tc := ⟨.hbm, 334, rfl⟩
abbrev main_v169 : Ref sig .tc := ⟨.hbm, 335, rfl⟩
abbrev main_v170 : Ref sig .tc := ⟨.hbm, 336, rfl⟩
abbrev main_v171 : Ref sig .tc := ⟨.hbm, 337, rfl⟩
abbrev main_v172 : Ref sig .tc := ⟨.hbm, 338, rfl⟩
abbrev main_c_71 : Ref sig .tc := ⟨.hbm, 339, rfl⟩
abbrev main_c_72 : Ref sig .tc := ⟨.hbm, 340, rfl⟩
abbrev main_call20_v0 : Ref sig .tc := ⟨.hbm, 341, rfl⟩
abbrev main_call20_v1 : Ref sig .tc := ⟨.hbm, 342, rfl⟩
abbrev main_call20_v2 : Ref sig .tc := ⟨.hbm, 343, rfl⟩
abbrev main_call20_v3 : Ref sig .tc := ⟨.hbm, 344, rfl⟩
abbrev main_call20_v4 : Ref sig .tc := ⟨.hbm, 345, rfl⟩
abbrev main_v173 : Ref sig .tc := ⟨.hbm, 346, rfl⟩
abbrev main_c_73 : Ref sig .tc := ⟨.hbm, 347, rfl⟩
abbrev main_v174 : Ref sig .tc := ⟨.hbm, 348, rfl⟩
abbrev main_v175 : Ref sig .tc := ⟨.hbm, 349, rfl⟩
abbrev main_c_74 : Ref sig .tc := ⟨.hbm, 350, rfl⟩
abbrev main_v176 : Ref sig .tc := ⟨.hbm, 351, rfl⟩
abbrev main_v177 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_v182 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩

abbrev nD : Nat := 1
abbrev τ : Topo := Topo.v7x

variable {F : FTy → Type} [FloatOps F]
-- ==== Proof.KBlocks.lean ====
/-
  What one point of the grid leaves: the output block, and the three tables the first point prepares (the step
  matrix times the stacked tables, the bond matrix set into zeros, and the row that is added everywhere).
-/
module

public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Atom

open Cert.KernelIdeal Cert.KernelIdeal.Gen Cert.KernelIdeal.Value

variable {F : FTy → Type} [FloatOps F]
variable (m : (ℓ : Loc nD τ sig) → Buf (Elt F) ℓ)

theorem hz : (![0, 0] : Fin 2 → Nat) = fun _ => 0 := funext fun a => by fin_cases a <;> rfl

/-- The stacked tables: fourteen blocks set into a 152 by 64 array of zeros. -/
def stacked (x6 : Vec F S7x4 .f32) (x7 : Vec F S7x4 .f32) (x8 : Vec F S2x4 .f32) (x9 : Vec F S8x4 .f32) (x10 : Vec F S2x4 .f32)
    (x11 : Vec F S6x4 .f32) (x12 : Vec F S5x4 .f32) (x13 : Vec F S36x4 .f32) (x14 : Vec F S2x2 .f32) (x15 : Vec F S2x2 .f32)
    (x16 : Vec F S7x4 .f32) (x17 : Vec F S5x4 .f32) (x18 : Vec F S8x4 .f32) (x19 : Vec F S48x16 .f32) : Vec F S152x64 .f32 :=
  View.canon [⟨Rect.unit (s := S152x64) ![97, 48] S48x16.size inb_S152x64_S48x16_97_48, k0_pay17 x19⟩,
    ⟨Rect.unit (s := S152x64) ![89, 44] S8x4.size inb_S152x64_S8x4_89_44, k0_pay16 x18⟩,
    ⟨Rect.unit (s := S152x64) ![84, 40] S5x4.size inb_S152x64_S5x4_84_40, k0_pay15 x17⟩,
    ⟨Rect.unit (s := S152x64) ![77, 36] S7x4.size inb_S152x64_S7x4_77_36, k0_pay14 x16⟩,
    ⟨Rect.unit (s := S152x64) ![75, 34] S2x2.size inb_S152x64_S2x2_75_34, k0_pay13 x15⟩,
    ⟨Rect.unit (s := S152x64) ![73, 32] S2x2.size inb_S152x64_S2x2_73_32, k0_pay12 x14⟩,
    ⟨Rect.unit (s := S152x64) ![37, 28] S36x4.size inb_S152x64_S36x4_37_28, k0_pay11 x13⟩,
    ⟨Rect.unit (s := S152x64) ![32, 24] S5x4.size inb_S152x64_S5x4_32_24, k0_pay10 x12⟩,
    ⟨Rect.unit (s := S152x64) ![26, 20] S6x4.size inb_S152x64_S6x4_26_20, k0_pay9 x11⟩,
    ⟨Rect.unit (s := S152x64) ![24, 16] S2x4.size inb_S152x64_S2x4_24_16, k0_pay8 x10⟩,
    ⟨Rect.unit (s := S152x64) ![16, 12] S8x4.size inb_S152x64_S8x4_16_12, k0_pay7 x9⟩,
    ⟨Rect.unit (s := S152x64) ![14, 8] S2x4.size inb_S152x64_S2x4_14_8, k0_pay6 x8⟩,
    ⟨Rect.unit (s := S152x64) ![7, 4] S7x4.size inb_S152x64_S7x4_7_4, k0_pay5 x7⟩,
    ⟨Rect.unit (s := S152x64) ![0, 0] S7x4.size inb_S152x64_S7x4_0_0, k0_pay4 x6⟩,
    ⟨Rect.unit (s := S152x64) ![0, 0] S152x64.size inb_S152x64_S152x64_0_0, k0_pay3 (F := F)⟩]

/-- The bond matrix set into an 80 by 64 array of zeros. -/
def bonds (x19 : Vec F S48x16 .f32) : Vec F S80x64 .f32 :=
  View.canon [⟨Rect.unit (s := S80x64) ![30, 48] S48x16.size inb_S80x64_S48x16_30_48, k0_pay20 x19⟩,
    ⟨Rect.unit (s := S80x64) ![0, 0] S80x64.size inb_S80x64_S80x64_0_0, k0_pay19 (F := F)⟩]

/-- The stacked tables of the blocks point `t` is given. -/
abbrev stackedAt (c : Dev nD) (t : Fin cfg0.N) : Vec F S152x64 .f32 :=
  stacked (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t) (iblk m c 19 t)

/-- A load of a whole array after a list of stores reads what the stores leave. -/
theorem readCov_whole {S : Shape} {e : EltTy} {sig : RefSig} {κ : Kind} {sp : Space} (v : View sig κ sp S e)
    (L : List (View.Piece (Elt F) S e)) {off : Fin S.rank → Nat} (h : off = fun _ => 0) (inb : ∀ a, off a + S.size a ≤ S.size a) :
    v.readCov L (Rect.unit off S.size inb).toLoadRect = View.canon L := by
  rw [View.readCov_eq_canon']
  exact View.ld_unit_zero h inb (View.canon L)

/-- Point 0 leaves the step matrix times the stacked tables, -/
theorem stA_wd (c : Dev nD) (t : Fin cfg0.N) (acc) (h0 : t.val % 5 = 0) :
    (stAt0 m c t.val t.isLt acc).2.1 = k0_pay18 (iblk m c 3 t) (stackedAt m c t) := by
  rw [stAt0_A m c t acc h0]
  dsimp only
  unfold sout0_A_1
  rw [View.read_writes_junk_eq_canon]
  unfold kernelRun0_A
  dsimp only
  sl_unfold_words
  rw [View.canon_unit_zero hz, readCov_whole _ _ hz]
  simp only [View.readAt_eq_ld, Memref.IsWhole.read_unread, View.ld_unit_zero (S := S128x152) hz, View.ld_unit_zero (S := S7x4) hz, View.ld_unit_zero (S := S2x4) hz, View.ld_unit_zero (S := S8x4) hz, View.ld_unit_zero (S := S6x4) hz, View.ld_unit_zero (S := S5x4) hz, View.ld_unit_zero (S := S36x4) hz, View.ld_unit_zero (S := S2x2) hz, View.ld_unit_zero (S := S48x16) hz]
  rfl

/-- the bond matrix set into zeros, -/
theorem stA_wa (c : Dev nD) (t : Fin cfg0.N) (acc) (h0 : t.val % 5 = 0) :
    (stAt0 m c t.val t.isLt acc).2.2.1 = bonds (iblk m c 19 t) := by
  rw [stAt0_A m c t acc h0]
  dsimp only
  unfold sout0_A_2
  rw [View.read_writes_junk_eq_canon]
  unfold kernelRun0_A
  dsimp only
  sl_unfold_words
  simp only [View.readAt_eq_ld, Memref.IsWhole.read_unread, View.ld_unit_zero (S := S48x16) hz]
  rfl

/-- the row added everywhere, -/
theorem stA_bias (c : Dev nD) (t : Fin cfg0.N) (acc) (h0 : t.val % 5 = 0) :
    (stAt0 m c t.val t.isLt acc).2.2.2 = k0_pay1 (k0_pay21 (iblk m c 4 t) (stackedAt m c t) (iblk m c 5 t)) := by
  rw [stAt0_A m c t acc h0]
  dsimp only
  unfold sout0_A_3
  rw [View.read_writes_junk_eq_canon]
  unfold kernelRun0_A
  dsimp only
  sl_unfold_words
  rw [View.canon_unit_zero hz, readCov_whole _ _ hz]
  simp only [View.readAt_eq_ld, Memref.IsWhole.read_unread, View.ld_unit_zero (S := S1x152) hz, View.ld_unit_zero (S := S1x64) hz, View.ld_unit_zero (S := S7x4) hz, View.ld_unit_zero (S := S2x4) hz, View.ld_unit_zero (S := S8x4) hz, View.ld_unit_zero (S := S6x4) hz, View.ld_unit_zero (S := S5x4) hz, View.ld_unit_zero (S := S36x4) hz, View.ld_unit_zero (S := S2x2) hz, View.ld_unit_zero (S := S48x16) hz]
  rfl

/-- The output block of a point, from its block of atoms and the three tables. -/
def outBlk (c : Dev nD) (t : Fin cfg0.N) (wd : Vec F S128x64 .f32) (wa : Vec F S80x64 .f32) (bias : Vec F S1x64 .f32) :
    Vec F S20000x64 .f32 :=
  k0_pay2 (iblk m c 0 t) (iblk m c 1 t) (iblk m c 2 t) wd
    (View.ld wa (Rect.unit (s := S80x64) ![0, 0] S78x64.size inb_S80x64_S78x64_0_0)) bias

/-- and its own output block, made from them. -/
theorem stA_out (c : Dev nD) (t : Fin cfg0.N) (acc) (h0 : t.val % 5 = 0) :
    (stAt0 m c t.val t.isLt acc).1 = outBlk m c t (k0_pay18 (iblk m c 3 t) (stackedAt m c t)) (bonds (iblk m c 19 t))
      (k0_pay1 (k0_pay21 (iblk m c 4 t) (stackedAt m c t) (iblk m c 5 t))) := by
  rw [stAt0_A m c t acc h0]
  dsimp only
  unfold out0_A_20
  rw [View.read_writes_junk_eq_canon]
  unfold kernelRun0_A
  dsimp only
  sl_unfold_words
  rw [View.canon_unit_zero hz]
  simp only [readCov_whole (S := S128x64) _ _ hz, readCov_whole (S := S1x64) _ _ hz, readCov_whole (S := S152x64) _ _ hz,
    View.canon_unit_zero (S := S128x64) hz, View.canon_unit_zero (S := S1x64) hz, View.readCov_eq_canon',
    View.readAt_eq_ld, Memref.IsWhole.read_unread, View.ld_unit_zero (S := S20000x78) hz, View.ld_unit_zero (S := S78x128) hz, View.ld_unit_zero (S := S1x128) hz, View.ld_unit_zero (S := S128x152) hz, View.ld_unit_zero (S := S1x152) hz, View.ld_unit_zero (S := S1x64) hz, View.ld_unit_zero (S := S7x4) hz, View.ld_unit_zero (S := S2x4) hz, View.ld_unit_zero (S := S8x4) hz, View.ld_unit_zero (S := S6x4) hz, View.ld_unit_zero (S := S5x4) hz, View.ld_unit_zero (S := S36x4) hz, View.ld_unit_zero (S := S2x2) hz, View.ld_unit_zero (S := S48x16) hz]
  rfl

/-- A later point leaves the three tables as they were and its own output block. -/
theorem stB (c : Dev nD) (t : Fin cfg0.N) (acc) (h0 : ¬t.val % 5 = 0) :
    stAt0 m c t.val t.isLt acc = (outBlk m c t acc.2.1 acc.2.2.1 acc.2.2.2, acc.2.1, acc.2.2.1, acc.2.2.2) := by
  rw [stAt0_B m c t acc h0]
  refine Prod.ext ?_ rfl
  dsimp only
  unfold out0_B_20
  rw [View.read_writes_junk_eq_canon]
  unfold kernelRun0_B
  dsimp only
  sl_unfold_words
  rw [View.canon_unit_zero hz]
  simp only [View.readAt_eq_ld, Memref.IsWhole.read_unread, View.ld_unit_zero (S := S20000x78) hz, View.ld_unit_zero (S := S78x128) hz, View.ld_unit_zero (S := S1x128) hz, View.ld_unit_zero (S := S128x64) hz, View.ld_unit_zero (S := S1x64) hz]
  erw [Memref.IsWhole.read_unread, Memref.IsWhole.read_unread, Memref.IsWhole.read_unread]
  rfl

end Cert.KernelIdeal.Atom

end
-- ==== Proof.Model.lean ====
/-
  The arguments as families of extended reals, and what one entry of the result is in terms of the integers the
  categorical columns hold: the entry of a table the column looks up, the reduced flags, or the bond environment.
-/
module

public import Idealize.ShloMosaic.PureOps.Ideal

@[expose] public section

noncomputable section

namespace Cert.Atom

/-- The arguments: the atoms' columns, the tables, the matrix and bias of the flags and those of the bond environment. -/
structure Inputs where
  x : Fin 100000 → Fin 78 → EReal
  el : Fin 7 → Fin 4 → EReal
  deg : Fin 7 → Fin 4 → EReal
  ring : Fin 2 → Fin 4 → EReal
  chg : Fin 8 → Fin 4 → EReal
  aro : Fin 2 → Fin 4 → EReal
  hyb : Fin 6 → Fin 4 → EReal
  hyd : Fin 5 → Fin 4 → EReal
  func : Fin 18 → Fin 2 → Fin 2 → EReal
  don : Fin 2 → Fin 2 → EReal
  acc : Fin 2 → Fin 2 → EReal
  rsz : Fin 7 → Fin 4 → EReal
  arn : Fin 5 → Fin 4 → EReal
  fus : Fin 8 → Fin 4 → EReal
  redW : Fin 36 → Fin 4 → EReal
  redB : Fin 4 → EReal
  bondW : Fin 48 → Fin 16 → EReal
  bondB : Fin 16 → EReal

/-- An integer clipped to `0 … k`. -/
def clip (k : ℕ) (n : ℤ) : Fin (k + 1) := ⟨min k n.toNat, by omega⟩

/-- The row of an atomic number: boron, carbon, nitrogen, oxygen, silicon, phosphorus, sulphur; boron's for any other. -/
def elementRow (n : ℤ) : Fin 7 :=
  if n = 6 then 1 else if n = 7 then 2 else if n = 8 then 3 else if n = 14 then 4 else if n = 15 then 5
  else if n = 16 then 6 else 0

/-- The row of a ring size: none, three to eight; the last one for any other. -/
def ringSizeRow (n : ℤ) : Fin 7 :=
  if n = 0 then 0 else if n = 3 then 1 else if n = 4 then 2 else if n = 5 then 3 else if n = 6 then 4
  else if n = 7 then 5 else 6

/-- The two entries of flag `j`'s embedding. -/
def flags (I : Inputs) (code : ℕ → ℤ) (q : Fin 36) : EReal :=
  I.func ⟨q.val / 2, by omega⟩ (clip 1 (code (7 + q.val / 2))) ⟨q.val % 2, by omega⟩

/-- Entry `j` of the row of an atom whose categorical columns hold the integers `code`. -/
def entry (I : Inputs) (code : ℕ → ℤ) (i : Fin 100000) (j : Fin 64) : EReal :=
  if h : j.val < 4 then I.el (elementRow (code 0)) ⟨j.val, by omega⟩
  else if h : j.val < 8 then I.deg (clip 6 (code 1)) ⟨j.val - 4, by omega⟩
  else if h : j.val < 12 then I.ring (clip 1 (code 5 + 1)) ⟨j.val - 8, by omega⟩
  else if h : j.val < 16 then I.chg (clip 7 (code 2)) ⟨j.val - 12, by omega⟩
  else if h : j.val < 20 then I.aro (clip 1 (code 4)) ⟨j.val - 16, by omega⟩
  else if h : j.val < 24 then I.hyb (clip 5 (code 3)) ⟨j.val - 20, by omega⟩
  else if h : j.val < 28 then I.hyd (clip 4 (code 6)) ⟨j.val - 24, by omega⟩
  else if h : j.val < 32 then (∑ q : Fin 36, flags I code q * I.redW q ⟨j.val - 28, by omega⟩) + I.redB ⟨j.val - 28, by omega⟩
  else if h : j.val < 34 then I.don (clip 1 (code 25)) ⟨j.val - 32, by omega⟩
  else if h : j.val < 36 then I.acc (clip 1 (code 26)) ⟨j.val - 34, by omega⟩
  else if h : j.val < 40 then I.rsz (ringSizeRow (code 27)) ⟨j.val - 36, by omega⟩
  else if h : j.val < 44 then I.arn (clip 4 (code 28)) ⟨j.val - 40, by omega⟩
  else if h : j.val < 48 then I.fus (clip 7 (code 29)) ⟨j.val - 44, by omega⟩
  else (∑ k : Fin 48, I.x i ⟨30 + k.val, by omega⟩ * I.bondW k ⟨j.val - 48, by omega⟩) + I.bondB ⟨j.val - 48, by omega⟩

end Cert.Atom

end
-- ==== Proof.KFold.lean ====
/-
  The whole grid: every point's output block is made from the same three tables, which the first point leaves, and the
  array that results at row `i` is row `i % 20000` of the block of point `i / 20000`.
-/
module

public import proofs.«01_k».proof.Proof.KBlocks
public import proofs.«01_k».proof.Proof.Model
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Atom

open Cert.KernelIdeal Cert.KernelIdeal.Gen Cert.KernelIdeal.Value

variable {F : FTy → Type} [FloatOps F]
variable (m : (ℓ : Loc nD τ sig) → Buf (Elt F) ℓ)

theorem pos_N : 0 < cfg0.N := by rw [show cfg0.N = 5 from N_0]; decide

/-- The first point. -/
abbrev pt0 : Fin cfg0.N := ⟨0, pos_N⟩

/-- The step matrix times the stacked tables, -/
def wdT (c : Dev nD) : Vec F S128x64 .f32 := k0_pay18 (iblk m c 3 pt0) (stackedAt m c pt0)
/-- the bond matrix in zeros, -/
def waT (c : Dev nD) : Vec F S80x64 .f32 := bonds (iblk m c 19 pt0)
/-- the row added everywhere: what the first point leaves. -/
def biasT (c : Dev nD) : Vec F S1x64 .f32 := k0_pay1 (k0_pay21 (iblk m c 4 pt0) (stackedAt m c pt0) (iblk m c 5 pt0))

/-- After every point the three tables are the first point's and the output block is made from them. -/
theorem outs_eq (c : Dev nD) : ∀ (n : ℕ) (h : n < cfg0.N),
    outsAt0 m c n h = (outBlk m c ⟨n, h⟩ (wdT m c) (waT m c) (biasT m c), wdT m c, waT m c, biasT m c)
  | 0, h => by
    rw [outsAt0_zero]
    have h0 : (pt0.val) % 5 = 0 := rfl
    exact Prod.ext (stA_out m c pt0 junk0 h0) (Prod.ext (stA_wd m c pt0 junk0 h0)
      (Prod.ext (stA_wa m c pt0 junk0 h0) (stA_bias m c pt0 junk0 h0)))
  | n + 1, h => by
    have hN : cfg0.N = 5 := N_0
    have hB : ¬(⟨n + 1, h⟩ : Fin cfg0.N).val % 5 = 0 := by dsimp only; omega
    rw [outsAt0_succ, outs_eq c n]
    exact stB m c ⟨n + 1, h⟩ _ hB

/-- The point whose block holds row `i`. -/
def ptOf (i : Fin 100000) : Fin cfg0.N := ⟨i.val / 20000, by rw [show cfg0.N = 5 from N_0]; omega⟩

/-- The result at row `i`, column `j`. -/
theorem G20_apply (c : Dev nD) (i : Fin 100000) (j : Fin 64) :
    (G20 m c : Vec F S100000x64 .f32) (ix2 i j)
      = outBlk m c (ptOf i) (wdT m c) (waT m c) (biasT m c) (ix2 ⟨i.val % 20000, Nat.mod_lt _ (by decide)⟩ j) := by
  have hpt : pt20Of (ix2 i j : S100000x64.Idx) = i.val / 20000 := by
    show 1 * (i.val / 20000 - 0) + 1 * (j.val / 64 - 0) = _
    omega
  have h : pt20Of (ix2 i j : S100000x64.Idx) < cfg0.N := by rw [hpt]; exact (ptOf i).isLt
  have hp : (⟨pt20Of (ix2 i j : S100000x64.Idx), h⟩ : Fin cfg0.N) = ptOf i := Fin.ext hpt
  unfold G20
  rw [dif_pos h, ← outsAt0_sweep m c _ h, outs_eq, hp]
  refine congrArg _ (funext fun a => Fin.ext ?_)
  match a with
  | ⟨0, _⟩ => rfl
  | ⟨1, _⟩ => exact Nat.mod_eq_of_lt j.isLt

/-- Every window but the atoms' and the result's stands still; those two step down the rows. -/
theorem idx : ∀ t : Fin cfg0.N, win0_0.index t = ![t.val, 0] := by decide +kernel

theorem blk0 (c : Dev nD) (t : Fin cfg0.N) (i : Fin 20000) (k : Fin 78) (r : Fin 100000) (hr : r.val = 20000 * t.val + i.val) :
    (iblk m c 0 t : Vec F S20000x78 .f32) (ix2 i k) = (m ((c : Thread nD τ).loc main_arg0) : Vec F S100000x78 .f32) (ix2 r k) := by
  blk_ext [iblk, V, idx t, hr]

/-! The windows that stand still hold their whole arrays. -/

theorem blk6 (c : Dev nD) : (iblk m c 6 pt0 : Vec F S7x4 .f32) = m ((c : Thread nD τ).loc main_arg1) := by
  funext j; blk_ext [iblk, V, show win0_6.index pt0 = ![0, 0] from by decide +kernel]

theorem blk7 (c : Dev nD) : (iblk m c 7 pt0 : Vec F S7x4 .f32) = m ((c : Thread nD τ).loc main_arg2) := by
  funext j; blk_ext [iblk, V, show win0_7.index pt0 = ![0, 0] from by decide +kernel]

theorem blk8 (c : Dev nD) : (iblk m c 8 pt0 : Vec F S2x4 .f32) = m ((c : Thread nD τ).loc main_arg3) := by
  funext j; blk_ext [iblk, V, show win0_8.index pt0 = ![0, 0] from by decide +kernel]

theorem blk9 (c : Dev nD) : (iblk m c 9 pt0 : Vec F S8x4 .f32) = m ((c : Thread nD τ).loc main_arg4) := by
  funext j; blk_ext [iblk, V, show win0_9.index pt0 = ![0, 0] from by decide +kernel]

theorem blk10 (c : Dev nD) : (iblk m c 10 pt0 : Vec F S2x4 .f32) = m ((c : Thread nD τ).loc main_arg5) := by
  funext j; blk_ext [iblk, V, show win0_10.index pt0 = ![0, 0] from by decide +kernel]

theorem blk11 (c : Dev nD) : (iblk m c 11 pt0 : Vec F S6x4 .f32) = m ((c : Thread nD τ).loc main_arg6) := by
  funext j; blk_ext [iblk, V, show win0_11.index pt0 = ![0, 0] from by decide +kernel]

theorem blk12 (c : Dev nD) : (iblk m c 12 pt0 : Vec F S5x4 .f32) = m ((c : Thread nD τ).loc main_arg7) := by
  funext j; blk_ext [iblk, V, show win0_12.index pt0 = ![0, 0] from by decide +kernel]

theorem blk14 (c : Dev nD) : (iblk m c 14 pt0 : Vec F S2x2 .f32) = m ((c : Thread nD τ).loc main_arg9) := by
  funext j; blk_ext [iblk, V, show win0_14.index pt0 = ![0, 0] from by decide +kernel]

theorem blk15 (c : Dev nD) : (iblk m c 15 pt0 : Vec F S2x2 .f32) = m ((c : Thread nD τ).loc main_arg10) := by
  funext j; blk_ext [iblk, V, show win0_15.index pt0 = ![0, 0] from by decide +kernel]

theorem blk16 (c : Dev nD) : (iblk m c 16 pt0 : Vec F S7x4 .f32) = m ((c : Thread nD τ).loc main_arg11) := by
  funext j; blk_ext [iblk, V, show win0_16.index pt0 = ![0, 0] from by decide +kernel]

theorem blk17 (c : Dev nD) : (iblk m c 17 pt0 : Vec F S5x4 .f32) = m ((c : Thread nD τ).loc main_arg12) := by
  funext j; blk_ext [iblk, V, show win0_17.index pt0 = ![0, 0] from by decide +kernel]

theorem blk18 (c : Dev nD) : (iblk m c 18 pt0 : Vec F S8x4 .f32) = m ((c : Thread nD τ).loc main_arg13) := by
  funext j; blk_ext [iblk, V, show win0_18.index pt0 = ![0, 0] from by decide +kernel]

theorem blk19 (c : Dev nD) : (iblk m c 19 pt0 : Vec F S48x16 .f32) = m ((c : Thread nD τ).loc main_arg16) := by
  funext j; blk_ext [iblk, V, show win0_19.index pt0 = ![0, 0] from by decide +kernel]

theorem blk1 (c : Dev nD) (t : Fin cfg0.N) :
    (iblk m c 1 t : Vec F S78x128 .f32) = fun i => FloatOps.ofBits .f32 (lit0 (S78x128.rowMajor i)) := by
  funext j; blk_ext [iblk, V, (by decide +kernel : ∀ t : Fin cfg0.N, win0_1.index t = ![0, 0]) t]

theorem blk2 (c : Dev nD) (t : Fin cfg0.N) :
    (iblk m c 2 t : Vec F S1x128 .f32) = fun i => FloatOps.ofBits .f32 (lit1 (S1x128.rowMajor i)) := by
  funext j; blk_ext [iblk, V, (by decide +kernel : ∀ t : Fin cfg0.N, win0_2.index t = ![0, 0]) t]

theorem blk3 (c : Dev nD) :
    (iblk m c 3 pt0 : Vec F S128x152 .f32) = fun i => FloatOps.ofBits .f32 (lit2 (S128x152.rowMajor i)) := by
  funext j; blk_ext [iblk, V, show win0_3.index pt0 = ![0, 0] from by decide +kernel]

theorem blk4 (c : Dev nD) :
    (iblk m c 4 pt0 : Vec F S1x152 .f32) = fun i => FloatOps.ofBits .f32 (lit3 (S1x152.rowMajor i)) := by
  funext j; blk_ext [iblk, V, show win0_4.index pt0 = ![0, 0] from by decide +kernel]

section
variable (m : (ℓ : Loc nD τ sig) → Buf (Elt Ideal) ℓ)

/-- The kernel's arguments as families of extended reals. -/
def inputs (c : Dev nD) : Cert.Atom.Inputs where
  x := fun i k => (m ((c : Thread nD τ).loc main_arg0) : Vec Ideal S100000x78 .f32) (ix2 i k)
  el := fun i k => (m ((c : Thread nD τ).loc main_arg1) : Vec Ideal S7x4 .f32) (ix2 i k)
  deg := fun i k => (m ((c : Thread nD τ).loc main_arg2) : Vec Ideal S7x4 .f32) (ix2 i k)
  ring := fun i k => (m ((c : Thread nD τ).loc main_arg3) : Vec Ideal S2x4 .f32) (ix2 i k)
  chg := fun i k => (m ((c : Thread nD τ).loc main_arg4) : Vec Ideal S8x4 .f32) (ix2 i k)
  aro := fun i k => (m ((c : Thread nD τ).loc main_arg5) : Vec Ideal S2x4 .f32) (ix2 i k)
  hyb := fun i k => (m ((c : Thread nD τ).loc main_arg6) : Vec Ideal S6x4 .f32) (ix2 i k)
  hyd := fun i k => (m ((c : Thread nD τ).loc main_arg7) : Vec Ideal S5x4 .f32) (ix2 i k)
  func := fun i k l => (m ((c : Thread nD τ).loc main_arg8) : Vec Ideal S18x2x2 .f32) (ix3 i k l)
  don := fun i k => (m ((c : Thread nD τ).loc main_arg9) : Vec Ideal S2x2 .f32) (ix2 i k)
  acc := fun i k => (m ((c : Thread nD τ).loc main_arg10) : Vec Ideal S2x2 .f32) (ix2 i k)
  rsz := fun i k => (m ((c : Thread nD τ).loc main_arg11) : Vec Ideal S7x4 .f32) (ix2 i k)
  arn := fun i k => (m ((c : Thread nD τ).loc main_arg12) : Vec Ideal S5x4 .f32) (ix2 i k)
  fus := fun i k => (m ((c : Thread nD τ).loc main_arg13) : Vec Ideal S8x4 .f32) (ix2 i k)
  redW := fun i k => (m ((c : Thread nD τ).loc main_arg14) : Vec Ideal S36x4 .f32) (ix2 i k)
  redB := fun i => (m ((c : Thread nD τ).loc main_arg15) : Vec Ideal S4 .f32) (ix1 i)
  bondW := fun i k => (m ((c : Thread nD τ).loc main_arg16) : Vec Ideal S48x16 .f32) (ix2 i k)
  bondB := fun i => (m ((c : Thread nD τ).loc main_arg17) : Vec Ideal S16 .f32) (ix1 i)

/-- The flags' table: row `2 * j + s` is row `s` of embedding `j` times its two rows of the matrix. -/
theorem blk13 (c : Dev nD) (r : Fin 36) (d : Fin 4) : ((iblk m c 13 pt0 : Vec Ideal S36x4 .f32) (ix2 r d) : EReal)
    = ∑ x : Fin 2, (inputs m c).func ⟨r.val / 2, by omega⟩ ⟨r.val % 2, by omega⟩ x
        * (inputs m c).redW ⟨r.val / 2 * 2 + x.val, by omega⟩ d := by
  have : (iblk m c 13 pt0 : Vec Ideal S36x4 .f32) = V m c main_v2 := by
    funext j; blk_ext [iblk, show win0_13.index pt0 = ![0, 0] from by decide +kernel]
  rw [this]
  entry_read
  pointwise
  rfl

end

end Cert.KernelIdeal.Atom

end
-- ==== Proof.KRows.lean ====
/-
  What the first point's tables and a point's block are, entry by entry: the row the launch prepares for the sum, and the
  products the body takes.
-/
module

public import proofs.«01_k».proof.Proof.KFold
public import Idealize.ShloMosaic.Lib.StableHlo.RunRead

@[expose] public section

set_option maxRecDepth 16384

noncomputable section

open Idealize.ShloMosaic Idealize.ShloMosaic.TcCoe Idealize.SL.Sem

namespace Cert.KernelIdeal.Atom

open Cert.KernelIdeal Cert.KernelIdeal.Gen Cert.KernelIdeal.Value
variable (m : (ℓ : Loc nD τ sig) → Buf (Elt Ideal) ℓ)
/-- The last two operations before the launch: four pieces end to end, laid out as a row. -/
theorem tail_v6 (W : Valuation τ sig (Elt Ideal)) (j : Fin 64) :
    (StableHlo.after ((hostOps0 (F := Ideal)).drop 11) W (Proc.devRef .tc main_v6) : Vec Ideal S1x64 .f32) (ix2 0 j)
    = if h : j.val < 28 then (W (Proc.devRef .tc main_v3) : Vec Ideal S28 .f32) (ix1 ⟨j.val, h⟩)
      else if h : j.val - 28 < 4 then (W (Proc.devRef .tc main_arg15) : Vec Ideal S4 .f32) (ix1 ⟨j.val - 28, h⟩)
      else if h : j.val - 28 - 4 < 16 then (W (Proc.devRef .tc main_v4) : Vec Ideal S16 .f32) (ix1 ⟨j.val - 28 - 4, h⟩)
      else (W (Proc.devRef .tc main_arg17) : Vec Ideal S16 .f32) (ix1 ⟨j.val - 28 - 4 - 16, by omega⟩) := by
  have : (StableHlo.after ((hostOps0 (F := Ideal)).drop 11) W (Proc.devRef .tc main_v6) : Vec Ideal S1x64 .f32)
     = shapeCast S1x64 (concatenate S64 0 [⟨S28, (W (Proc.devRef .tc main_v3) : Vec Ideal S28 .f32)⟩, ⟨S4, (W (Proc.devRef .tc main_arg15) : Vec Ideal S4 .f32)⟩, ⟨S16, (W (Proc.devRef .tc main_v4) : Vec Ideal S16 .f32)⟩, ⟨S16, (W (Proc.devRef .tc main_arg17) : Vec Ideal S16 .f32)⟩] concatenates_S28_S4_S16_S16_S64_d0) shapeCasts_S64_S1x64 := by
    simp only [hostOps0, List.drop_succ_cons, List.drop_zero]
    after_reads_simp
    dsimp only [Matrix.cons_val]
    rfl
  rw [this]
  pointwise

/-- The row added: zeros, the flags' bias, zeros, the bond environment's bias. -/
theorem blk5 (c : Dev nD) (j : Fin 64) : ((iblk m c 5 pt0 : Vec Ideal S1x64 .f32) (ix2 0 j) : EReal)
    = if j.val < 28 then 0 else if h : j.val < 32 then (inputs m c).redB ⟨j.val - 28, by omega⟩
      else if j.val < 48 then 0 else (inputs m c).bondB ⟨j.val - 48, by omega⟩ := by
  have : (iblk m c 5 pt0 : Vec Ideal S1x64 .f32) = V m c main_v6 := by
    funext j; blk_ext [iblk, show win0_5.index pt0 = ![0, 0] from by decide +kernel]
  rw [this]
  unfold V
  rw [show (hostOps0 (F := Ideal)) = (hostOps0 (F := Ideal)).take 11 ++ (hostOps0 (F := Ideal)).drop 11 from rfl, StableHlo.after_append, tail_v6]
  simp only [hostOps0, List.take_succ_cons, List.take_zero]
  by_cases h1 : j.val < 28
  · rw [dif_pos h1, if_pos h1]
    after_reads_simp
    pointwise
  by_cases h2 : j.val < 32
  · rw [dif_neg h1, dif_pos (show j.val - 28 < 4 by omega), if_neg h1, dif_pos h2]
    after_reads_simp
    rfl
  by_cases h3 : j.val < 48
  · rw [dif_neg h1, dif_neg (show ¬j.val - 28 < 4 by omega), dif_pos (show j.val - 28 - 4 < 16 by omega), if_neg h1, dif_neg h2, if_pos h3]
    after_reads_simp
    pointwise
  · rw [dif_neg h1, dif_neg (show ¬j.val - 28 < 4 by omega), dif_neg (show ¬j.val - 28 - 4 < 16 by omega), if_neg h1, dif_neg h2, if_neg h3]
    after_reads_simp
    show _ = (m ((c : Thread nD τ).loc main_arg17) : Vec Ideal S16 .f32) (ix1 ⟨j.val - 48, _⟩)
    congr 2

/-- The step matrix times the stacked tables. -/
theorem pay18_apply (a : Vec Ideal S128x152 .f32) (b : Vec Ideal S152x64 .f32) (p : Fin 128) (j : Fin 64) :
    (k0_pay18 a b (ix2 p j) : EReal) = ∑ r : Fin 152, (a (ix2 p r) * b (ix2 r j) : EReal) := by
  pointwise [k0_pay18]

/-- The first row of every table, and the biases. -/
theorem pay21_apply (a : Vec Ideal S1x152 .f32) (b : Vec Ideal S152x64 .f32) (e : Vec Ideal S1x64 .f32) (j : Fin 64) :
    (k0_pay1 (k0_pay21 a b e) (ix2 0 j) : EReal) = (∑ r : Fin 152, (a (ix2 0 r) * b (ix2 r j) : EReal)) + (e (ix2 0 j) : EReal) := by
  pointwise [k0_pay21, k0_pay1]

/-- A row of the result: the steps the columns reach, the bond environment, and the row added everywhere. -/
theorem pay2_apply (a : Vec Ideal S20000x78 .f32) (sel : Vec Ideal S78x128 .f32) (lo : Vec Ideal S1x128 .f32)
    (wd : Vec Ideal S128x64 .f32) (wa : Vec Ideal S78x64 .f32) (b : Vec Ideal S1x64 .f32) (i : Fin 20000) (j : Fin 64) :
    (k0_pay2 a sel lo wd wa b (ix2 i j) : EReal)
      = ((∑ p : Fin 128, (if (lo (ix2 0 p) : EReal) ≤ ∑ k : Fin 78, (a (ix2 i k) * sel (ix2 k p) : EReal) then 1 else 0) * (wd (ix2 p j) : EReal))
        + ∑ k : Fin 78, (a (ix2 i k) * wa (ix2 k j) : EReal)) + (b (ix2 0 j) : EReal) := by
  pointwise [k0_pay2]

end Cert.KernelIdeal.Atom

end
-- ==== Proof.Plan.lean ====
/-
  The kernel's four constant tables as functions of integers. Position `p` of the plan is a step: it compares the column
  `colp p` with `thr2 p / 2`, and taking it adds row `r` of the stacked tables `Dz p r` times. `B0z r` is how often row
  `r` is added before any step. What the steps a column's integer `w` takes leave of a row is one for the row `hotRow`
  looks up and zero for any other.
-/
module

public import proofs.«01_k».proof.KernelIdeal
public import proofs.«01_k».proof.Proof.Model

@[expose] public section

set_option maxRecDepth 16384

noncomputable section

open Idealize.ShloMosaic

namespace Cert.Atom

open Cert.KernelIdeal

/-- A step: the column, twice the threshold, whether it is added or taken back, the row gained and the row given up. -/
structure Step where
  col : ℕ
  thr2 : ℤ
  sgn : ℤ
  hi : ℕ
  lo : ℕ

/-- The steps of a clipped table of `k + 1` rows that start at row `start`. -/
def clipSteps (col k start : ℕ) : List Step :=
  (List.range k).map fun r : ℕ => ⟨col, 2 * (r : ℤ) + 1, 1, start + r + 1, start + r⟩

/-- The two steps that put row `row` in the place of row `base` where the column is exactly `v`. -/
def exactSteps (col base : ℕ) (v : ℤ) (row : ℕ) : List Step :=
  [⟨col, 2 * v - 1, 1, row, base⟩, ⟨col, 2 * v + 1, -1, row, base⟩]

/-- The plan, position by position. -/
def plan : List Step :=
  [(6, 1), (7, 2), (8, 3), (14, 4), (15, 5), (16, 6)].flatMap (fun v => exactSteps 0 0 v.1 v.2)
    ++ clipSteps 1 6 7 ++ [⟨5, -1, 1, 15, 14⟩] ++ clipSteps 2 7 16 ++ clipSteps 4 1 24 ++ clipSteps 3 5 26
    ++ clipSteps 6 4 32 ++ (List.range 18).flatMap (fun j => clipSteps (7 + j) 1 (37 + 2 * j))
    ++ clipSteps 25 1 73 ++ clipSteps 26 1 75
    ++ [(0, 77), (3, 78), (4, 79), (5, 80), (6, 81), (7, 82)].flatMap (fun v => exactSteps 27 83 v.1 v.2)
    ++ clipSteps 28 4 84 ++ clipSteps 29 7 89

/-- Position `p`; past the plan, a step that changes nothing. -/
def step (p : ℕ) : Step := plan.getD p ⟨0, 0, 0, 0, 0⟩

/-- How often a step adds row `r`. -/
def Step.change (s : Step) (r : ℕ) : ℤ := (if r = s.hi then s.sgn else 0) - (if r = s.lo then s.sgn else 0)

/-- The column of position `p`. -/
def colp (p : ℕ) : ℕ := (step p).col
/-- Twice the threshold of position `p`. -/
def thr2 (p : ℕ) : ℤ := (step p).thr2
/-- How often position `p` adds row `r`. -/
def Dz (p r : ℕ) : ℤ := (step p).change r

/-- How often row `r` is added before any step: once for the row every table starts from. -/
def B0z (r : ℕ) : ℤ :=
  if r ∈ [0, 7, 14, 16, 24, 26, 32, 73, 75, 83, 84, 89] then 1 else if 37 ≤ r ∧ r < 73 ∧ r % 2 = 1 then 1 else 0

/-- The column whose integer looks row `r` up. -/
def colOf (r : ℕ) : ℕ :=
  if r < 7 then 0 else if r < 14 then 1 else if r < 16 then 5 else if r < 24 then 2 else if r < 26 then 4
  else if r < 32 then 3 else if r < 37 then 6 else if r < 73 then 7 + (r - 37) / 2 else if r < 75 then 25
  else if r < 77 then 26 else if r < 84 then 27 else if r < 89 then 28 else 29

/-- The row that column `c` looks up where it holds `w`. -/
def hotRow (c : ℕ) (w : ℤ) : ℕ :=
  if c = 0 then (elementRow w).val else if c = 1 then 7 + (clip 6 w).val else if c = 2 then 16 + (clip 7 w).val
  else if c = 3 then 26 + (clip 5 w).val else if c = 4 then 24 + (clip 1 w).val
  else if c = 5 then 14 + (clip 1 (w + 1)).val else if c = 6 then 32 + (clip 4 w).val
  else if c < 25 then 37 + 2 * (c - 7) + (clip 1 w).val else if c = 25 then 73 + (clip 1 w).val
  else if c = 26 then 75 + (clip 1 w).val else if c = 27 then 77 + (ringSizeRow w).val
  else if c = 28 then 84 + (clip 4 w).val else 89 + (clip 7 w).val

/-- The pattern of half an odd integer, for the thresholds of the plan. -/
def halfBits (t : ℤ) : BitVec 32 :=
  if t = -1 then 0xBF000000#32 else if t = 1 then 0x3F000000#32 else if t = 3 then 0x3FC00000#32
  else if t = 5 then 0x40200000#32 else if t = 7 then 0x40600000#32 else if t = 9 then 0x40900000#32
  else if t = 11 then 0x40B00000#32 else if t = 13 then 0x40D00000#32 else if t = 15 then 0x40F00000#32
  else if t = 17 then 0x41080000#32 else if t = 27 then 0x41580000#32 else if t = 29 then 0x41680000#32
  else if t = 31 then 0x41780000#32 else 0x41840000#32

/-- The pattern of an integer that is 0, 1 or -1. -/
def unitBits (t : ℤ) : BitVec 32 := if t = 0 then 0x00000000#32 else if t = 1 then 0x3F800000#32 else 0xBF800000#32

theorem thr2_mem : ∀ p : Fin 79, thr2 p.val ∈ ([-1, 1, 3, 5, 7, 9, 11, 13, 15, 17, 27, 29, 31, 33] : List ℤ) := by
  decide +kernel

theorem halfBits_eq (t : ℤ) (h : t ∈ ([-1, 1, 3, 5, 7, 9, 11, 13, 15, 17, 27, 29, 31, 33] : List ℤ)) :
    Ideal.ofBits .f32 (halfBits t) = (((t : ℝ) / 2 : ℝ) : EReal) := by
  simp only [List.mem_cons, List.not_mem_nil, or_false] at h
  rcases h with h | h | h | h | h | h | h | h | h | h | h | h | h | h <;> subst h <;>
    simp [halfBits, Ideal.ofBits, Ideal.ieee, -EReal.coe_mul] <;> norm_num

theorem unitBits_eq (t : ℤ) (h : t ∈ ([0, 1, -1] : List ℤ)) : Ideal.ofBits .f32 (unitBits t) = ((t : ℝ) : EReal) := by
  simp only [List.mem_cons, List.not_mem_nil, or_false] at h
  rcases h with h | h | h <;> subst h <;>
    simp [unitBits, Ideal.ofBits, Ideal.ieee, -EReal.coe_mul] <;> norm_num

theorem lit1_bits : ∀ p : Fin 79, lit1 ⟨p.val, by omega⟩ = halfBits (thr2 p.val) := by decide +kernel

theorem lit3_bits : ∀ r : Fin 152, lit3 r = unitBits (B0z r.val) ∧ B0z r.val ∈ ([0, 1, -1] : List ℤ) := by decide +kernel

theorem lit0_bits : ∀ k : Fin 78, ∀ p : Fin 128,
    lit0 ⟨128 * k.val + p.val, by omega⟩ = unitBits (if p.val < 79 ∧ k.val = colp p.val then 1 else 0) := by decide +kernel

theorem lit2_bits : ∀ p : Fin 128, ∀ r : Fin 152,
    lit2 ⟨152 * p.val + r.val, by omega⟩ = unitBits (Dz p.val r.val) ∧ Dz p.val r.val ∈ ([0, 1, -1] : List ℤ) := by
  decide +kernel

/-- A step changes rows of its own column only. -/
theorem col_of_change : ∀ p : Fin 79, ∀ r : Fin 97, Dz p.val r.val ≠ 0 → colp p.val = colOf r.val := by decide +kernel

theorem colp_lt : ∀ p : Fin 79, colp p.val < 30 := by decide +kernel

/-- No step changes a row of the bond matrix, and none is added before the steps. -/
theorem change_bond : ∀ p : Fin 128, ∀ r : Fin 152, 97 ≤ r.val ∨ 79 ≤ p.val → Dz p.val r.val = 0 := by decide +kernel
theorem start_bond : ∀ r : Fin 152, 97 ≤ r.val → B0z r.val = 0 := by decide +kernel

/-- What the steps that `w` takes change of row `r`, summed down the plan. -/
def taken (w : ℤ) (r : ℕ) : ℤ := plan.foldr (fun s a => (if s.thr2 ≤ 2 * w then s.change r else 0) + a) 0
theorem taken_hot : ∀ r : Fin 97, ∀ v : Fin 19,
    B0z r.val + taken ((v.val : ℤ) - 1) r.val = if r.val = hotRow (colOf r.val) ((v.val : ℤ) - 1) then 1 else 0 := by
  decide +kernel

end Cert.Atom

end
-- ==== Proof.Steps.lean ====
/-
  Adding up the plan: the steps the columns' integers take, and the rows every table starts from, leave of the stacked
  tables one row for every column, the one its integer looks up.
-/
module

public import proofs.«01_k».proof.Proof.Plan
public import Mathlib.Data.EReal.Operations
public import Mathlib.Algebra.BigOperators.Fin
public import Mathlib.Tactic.Ring

@[expose] public section

noncomputable section

open Idealize.ShloMosaic

namespace Cert.Atom

/-- A sum over positions, of what stands there in a list, is the sum down the list. -/
theorem sum_getD {α : Type} (d : α) (g : α → ℤ) (hd : g d = 0) : ∀ (l : List α) (n : ℕ), l.length ≤ n →
    ∑ p : Fin n, g (l.getD p.val d) = l.foldr (fun s a => g s + a) 0
  | [], n, _ => Finset.sum_eq_zero fun p _ => hd
  | s :: l, 0, h => absurd h (by simp)
  | s :: l, n + 1, h => by
    rw [Fin.sum_univ_succ]
    exact congrArg (g s + ·) (sum_getD d g hd l n (by simpa using h))

theorem sum_taken (w : ℤ) (r : ℕ) : ∑ p : Fin 128, (if thr2 p.val ≤ 2 * w then Dz p.val r else 0) = taken w r :=
  sum_getD ⟨0, 0, 0, 0, 0⟩ (fun s => if s.thr2 ≤ 2 * w then s.change r else 0)
    (by simp [Step.change]) plan 128 (by decide)

/-- Integers past the tables' range look up what the nearest of -1 and 17 does. -/
theorem hotRow_clamp (c : ℕ) (w : ℤ) : hotRow c (max (-1) (min 17 w)) = hotRow c w := by
  have hc : ∀ k : ℕ, k ≤ 8 → clip k (max (-1) (min 17 w)) = clip k w := fun k hk => Fin.ext (by simp only [clip]; omega)
  have hr : clip 1 (max (-1) (min 17 w) + 1) = clip 1 (w + 1) := Fin.ext (by simp only [clip]; omega)
  have he : elementRow (max (-1) (min 17 w)) = elementRow w := by
    unfold elementRow; split_ifs <;> first | rfl | omega
  have hs : ringSizeRow (max (-1) (min 17 w)) = ringSizeRow w := by
    unfold ringSizeRow; split_ifs <;> first | rfl | omega
  unfold hotRow
  rw [hc 6 (by decide), hc 7 (by decide), hc 5 (by decide), hc 1 (by decide), hc 4 (by decide), hr, he, hs]

/-- What is left of row `r`: once where its column's integer looks it up, else nothing. -/
theorem coef_hot (n : ℕ → ℤ) (r : Fin 152) (hr : r.val < 97) :
    B0z r.val + ∑ p : Fin 128, (if thr2 p.val ≤ 2 * n (colp p.val) then Dz p.val r.val else 0)
      = if r.val = hotRow (colOf r.val) (n (colOf r.val)) then 1 else 0 := by
  have hterm : ∀ p : Fin 128, (if thr2 p.val ≤ 2 * n (colp p.val) then Dz p.val r.val else 0)
      = if thr2 p.val ≤ 2 * max (-1) (min 17 (n (colOf r.val))) then Dz p.val r.val else 0 := by
    intro p
    by_cases h : Dz p.val r.val = 0
    · rw [h]; simp
    have hp : p.val < 79 := by
      by_contra hp; exact h (change_bond p r (Or.inr (by omega)))
    have hcol : colp p.val = colOf r.val := col_of_change ⟨p.val, hp⟩ ⟨r.val, hr⟩ h
    have ht : thr2 p.val ∈ _ := thr2_mem ⟨p.val, hp⟩
    simp only [List.mem_cons, List.not_mem_nil, or_false] at ht
    rw [hcol]
    refine if_congr ?_ rfl rfl
    generalize n (colOf r.val) = w
    generalize thr2 p.val = t at ht ⊢
    omega
  rw [Finset.sum_congr rfl fun p _ => hterm p, sum_taken]
  have h := taken_hot ⟨r.val, hr⟩ ⟨(max (-1) (min 17 (n (colOf r.val))) + 1).toNat, by omega⟩
  have hv : (((max (-1) (min 17 (n (colOf r.val))) + 1).toNat : ℕ) : ℤ) - 1 = max (-1) (min 17 (n (colOf r.val))) := by omega
  rw [hv, hotRow_clamp] at h
  exact h

/-- The rows looked up, added up. -/
def hotSum (n : ℕ → ℤ) (P : Fin 152 → ℝ) : ℝ := ∑ r : Fin 152, if r.val = hotRow (colOf r.val) (n (colOf r.val)) then P r else 0

theorem coe_sum {ι : Type} [Fintype ι] (f : ι → ℝ) : ((∑ i, f i : ℝ) : EReal) = ∑ i, (f i : EReal) :=
  map_sum (⟨⟨((↑) : ℝ → EReal), EReal.coe_zero⟩, EReal.coe_add⟩ : ℝ →+ EReal) f Finset.univ

/-- The steps' products and the starting rows are the rows looked up. -/
theorem steps_hot (n : ℕ → ℤ) (P : Fin 152 → EReal) (Q : Fin 152 → ℝ) (hP : ∀ r : Fin 152, r.val < 97 → P r = (Q r : EReal))
    (hQ : ∀ r : Fin 152, 97 ≤ r.val → Q r = 0) (s : Fin 128 → EReal)
    (hs : ∀ p : Fin 128, p.val < 79 → s p = if thr2 p.val ≤ 2 * n (colp p.val) then 1 else 0)
    (d : Fin 128 → Fin 152 → EReal) (hd : ∀ p r, d p r = ((Dz p.val r.val : ℝ) : EReal))
    (b : Fin 152 → EReal) (hb : ∀ r, b r = ((B0z r.val : ℝ) : EReal)) :
    (∑ p : Fin 128, s p * ∑ r : Fin 152, d p r * P r) + ∑ r : Fin 152, b r * P r = (hotSum n Q : EReal) := by
  have h1 : ∀ p r, d p r * P r = ((Dz p.val r.val * Q r : ℝ) : EReal) := by
    intro p r
    rw [hd]
    by_cases hr : r.val < 97
    · rw [hP r hr, EReal.coe_mul]
    · rw [change_bond p r (Or.inl (by omega))]; simp
  have h2 : ∀ r, b r * P r = ((B0z r.val * Q r : ℝ) : EReal) := by
    intro r
    rw [hb]
    by_cases hr : r.val < 97
    · rw [hP r hr, EReal.coe_mul]
    · rw [start_bond r (by omega)]; simp
  have h3 : ∀ p : Fin 128, s p * ∑ r : Fin 152, d p r * P r
      = ((∑ r : Fin 152, ((if thr2 p.val ≤ 2 * n (colp p.val) then Dz p.val r.val else 0 : ℤ) : ℝ) * Q r : ℝ) : EReal) := by
    intro p
    rw [Finset.sum_congr rfl fun r _ => h1 p r, ← coe_sum]
    by_cases hp : p.val < 79
    · rw [hs p hp]
      split_ifs <;> simp
    · have : ∀ r : Fin 152, Dz p.val r.val = 0 := fun r => change_bond p r (Or.inr (by omega))
      simp [this]
  rw [Finset.sum_congr rfl fun p _ => h3 p, ← coe_sum, Finset.sum_congr rfl fun r _ => h2 r, ← coe_sum, ← EReal.coe_add]
  congr 1
  rw [Finset.sum_comm, ← Finset.sum_add_distrib]
  refine Finset.sum_congr rfl fun r _ => ?_
  rw [← Finset.sum_mul, ← add_mul, ← Int.cast_sum, ← Int.cast_add, add_comm]
  by_cases hr : r.val < 97
  · rw [coef_hot n r hr]
    split_ifs <;> simp
  · rw [hQ r (by omega)]; simp

/-- Rows that are zero but in one column's table add up to the row that column looks up. -/
theorem hotSum_single (n : ℕ → ℤ) (Q : Fin 152 → ℝ) (c a k : ℕ) (hc : ∀ r, a ≤ r → r < a + k → colOf r = c)
    (hQ : ∀ r : Fin 152, ¬(a ≤ r.val ∧ r.val < a + k) → Q r = 0) (r : Fin 152) (hr : r.val = hotRow c (n c))
    (hm : a ≤ r.val ∧ r.val < a + k) : hotSum n Q = Q r := by
  unfold hotSum
  rw [Finset.sum_eq_single r]
  · rw [if_pos]; rw [hc r.val hm.1 hm.2]; exact hr
  · intro s _ hs
    by_cases hi : a ≤ s.val ∧ s.val < a + k
    · rw [if_neg]
      rw [hc s.val hi.1 hi.2, ← hr]
      exact fun h => hs (Fin.ext h)
    · rw [hQ s hi, ite_self]
  · exact fun h => absurd (Finset.mem_univ r) h

/-- A sum over the flags' rows, pair by pair. -/
theorem sum_pairs {M : Type} [AddCommMonoid M] (f : Fin 36 → M) :
    ∑ q : Fin 36, f q = ∑ j : Fin 18, ∑ x : Fin 2, f ⟨2 * j.val + x.val, by omega⟩ := by
  rw [← (finProdFinEquiv (m := 18) (n := 2)).sum_comp, Fintype.sum_prod_type]
  refine Finset.sum_congr rfl fun j _ => Finset.sum_congr rfl fun x _ => congrArg f (Fin.ext ?_)
  simp [finProdFinEquiv]; omega

/-- Rows that are zero but among the flags' add up to the one row of every flag that its column looks up. -/
theorem hotSum_flags (n : ℕ → ℤ) (Q : Fin 152 → ℝ) (hQ : ∀ r : Fin 152, ¬(37 ≤ r.val ∧ r.val < 73) → Q r = 0) :
    hotSum n Q = ∑ j : Fin 18, Q ⟨37 + 2 * j.val + (clip 1 (n (7 + j.val))).val, by omega⟩ := by
  have hcol : ∀ q : ℕ, q < 36 → colOf (37 + q) = 7 + q / 2 := by decide +kernel
  have hrow : ∀ q : ℕ, q < 36 → ∀ w, hotRow (7 + q / 2) w = 37 + 2 * (q / 2) + (clip 1 w).val := by
    intro q hq w
    unfold hotRow
    rw [if_neg (by omega), if_neg (by omega), if_neg (by omega), if_neg (by omega), if_neg (by omega), if_neg (by omega),
      if_neg (by omega), if_pos (by omega)]
    omega
  have : hotSum n Q = ∑ q : Fin 36, if q.val % 2 = (clip 1 (n (7 + q.val / 2))).val then Q ⟨37 + q.val, by omega⟩ else 0 := by
    unfold hotSum
    symm
    refine Finset.sum_of_injOn (fun q : Fin 36 => (⟨37 + q.val, by omega⟩ : Fin 152)) ?_ (fun _ _ => Finset.mem_coe.2 (Finset.mem_univ _)) ?_ ?_
    · intro a _ b _ h
      have := congrArg Fin.val h
      exact Fin.ext (by simpa using this)
    · intro r _ hr
      rw [hQ r, ite_self]
      intro h
      exact hr ⟨⟨r.val - 37, by omega⟩, Finset.mem_coe.2 (Finset.mem_univ _), Fin.ext (by simp; omega)⟩
    · intro q _
      dsimp only
      rw [hcol q.val q.isLt, hrow q.val q.isLt]
      refine if_congr ?_ rfl rfl
      omega
  rw [this, sum_pairs]
  refine Finset.sum_congr rfl fun j _ => ?_
  have e : ∀ x : Fin 2, (2 * j.val + x.val) % 2 = x.val ∧ (2 * j.val + x.val) / 2 = j.val := fun x => ⟨by omega, by omega⟩
  rw [Finset.sum_eq_single (clip 1 (n (7 + j.val)))]
  · dsimp only
    rw [(e _).1, (e _).2, if_pos rfl]
    exact congrArg Q (Fin.ext (by dsimp only; omega))
  · intro x _ hx
    dsimp only
    rw [(e _).1, (e _).2, if_neg fun h => hx (Fin.ext h)]
  · exact fun h => absurd (Finset.mem_univ _) h

end Cert.Atom

end
-- ==== Proof.KTables.lean ====
/-
  The kernel's constants and prepared tables, entry by entry: the columns selected, the thresholds, the steps, the
  stacked tables and the bond matrix set into zeros.
-/
module

public import proofs.«01_k».proof.Proof.KRows
public import proofs.«01_k».proof.Proof.Steps

@[expose] public section

set_option maxRecDepth 16384

noncomputable section

open Idealize.ShloMosaic Idealize.ShloMosaic.TcCoe Idealize.SL.Sem

namespace Cert.KernelIdeal.Atom

open Cert.KernelIdeal Cert.KernelIdeal.Gen Cert.KernelIdeal.Value Cert.Atom
variable (m : (ℓ : Loc nD τ sig) → Buf (Elt Ideal) ℓ)

/-! ## A block set into an array -/

section
variable {R C k l a b : ℕ} {F : FTy → Type} [FloatOps F]

/-- In the block's columns the last block is read in its rows and what lies under it elsewhere; -/
theorem canon_hit (inb) (w : Vec F ⟨2, ![k, l]⟩ .f32) (L) (r : Fin R) (c : Fin C) (hc : b ≤ c.val ∧ c.val < b + l) :
    (View.canon (Val := Elt F) (⟨Rect.unit (s := ⟨2, ![R, C]⟩) ![a, b] (⟨2, ![k, l]⟩ : Shape).size inb, w⟩ :: L) (ix2 r c) : F .f32)
      = if h : a ≤ r.val ∧ r.val < a + k then w (ix2 ⟨r.val - a, by omega⟩ ⟨c.val - b, by omega⟩) else View.canon L (ix2 r c) := by
  by_cases h : a ≤ r.val ∧ r.val < a + k
  · rw [dif_pos h]
    have := View.canon_cons_emb (Val := Elt F) (e := .f32) (Rect.unit (s := ⟨2, ![R, C]⟩) ![a, b] (⟨2, ![k, l]⟩ : Shape).size inb) w L
      (ix2 ⟨r.val - a, by omega⟩ ⟨c.val - b, by omega⟩)
    rw [← this]
    refine congrArg _ (funext fun x => Fin.ext ?_)
    match x with
    | ⟨0, _⟩ => show r.val = a + 1 * (r.val - a); omega
    | ⟨1, _⟩ => show c.val = b + 1 * (c.val - b); omega
  · rw [dif_neg h]
    refine View.canon_cons_of_not_mem _ _ fun hm => h ?_
    exact ((Rect.mem_set_unit (inb := inb) (i := ix2 r c)).1 hm) 0

/-- outside its columns what lies under it. -/
theorem canon_skip (inb) (w : Vec F ⟨2, ![k, l]⟩ .f32) (L) (r : Fin R) (c : Fin C) (hc : ¬(b ≤ c.val ∧ c.val < b + l)) :
    (View.canon (Val := Elt F) (⟨Rect.unit (s := ⟨2, ![R, C]⟩) ![a, b] (⟨2, ![k, l]⟩ : Shape).size inb, w⟩ :: L) (ix2 r c) : F .f32)
      = View.canon L (ix2 r c) :=
  View.canon_cons_of_not_mem _ _ fun hm => hc (((Rect.mem_set_unit (inb := inb) (i := ix2 r c)).1 hm) 1)

end

/-! ## The constants -/

theorem sel_apply (c : Dev nD) (t : Fin cfg0.N) (k : Fin 78) (p : Fin 128) : ((iblk m c 1 t : Vec Ideal S78x128 .f32) (ix2 k p) : EReal)
    = (if p.val < 79 ∧ k.val = colp p.val then 1 else 0 : EReal) := by
  rw [blk1]
  have e : (S78x128.rowMajor (ix2 k p)) = (⟨128 * k.val + p.val, by omega⟩ : Fin 9984) := by
    refine Fin.ext ((Shape.rowMajor_val_two (d := ![78, 128]) _).trans ?_); show k.val * 128 + p.val = 128 * k.val + p.val; omega
  show Ideal.ofBits .f32 (lit0 (S78x128.rowMajor (ix2 k p))) = _
  rw [e, lit0_bits, unitBits_eq _ (by split_ifs <;> decide)]
  split_ifs <;> simp

theorem lo_apply (c : Dev nD) (t : Fin cfg0.N) (p : Fin 128) (hp : p.val < 79) :
    ((iblk m c 2 t : Vec Ideal S1x128 .f32) (ix2 0 p) : EReal) = (((thr2 p.val : ℝ) / 2 : ℝ) : EReal) := by
  rw [blk2]
  have e : (S1x128.rowMajor (ix2 0 p)) = (⟨p.val, by omega⟩ : Fin 128) := by
    refine Fin.ext ((Shape.rowMajor_val_two (d := ![1, 128]) _).trans ?_); show 0 * 128 + p.val = p.val; omega
  show Ideal.ofBits .f32 (lit1 (S1x128.rowMajor (ix2 0 p))) = _
  rw [e, lit1_bits ⟨p.val, hp⟩, halfBits_eq _ (thr2_mem ⟨p.val, hp⟩)]

theorem d_apply (c : Dev nD) (p : Fin 128) (r : Fin 152) :
    ((iblk m c 3 pt0 : Vec Ideal S128x152 .f32) (ix2 p r) : EReal) = ((Dz p.val r.val : ℝ) : EReal) := by
  rw [blk3]
  have e : (S128x152.rowMajor (ix2 p r)) = (⟨152 * p.val + r.val, by omega⟩ : Fin 19456) := by
    refine Fin.ext ((Shape.rowMajor_val_two (d := ![128, 152]) _).trans ?_); show p.val * 152 + r.val = 152 * p.val + r.val; omega
  show Ideal.ofBits .f32 (lit2 (S128x152.rowMajor (ix2 p r))) = _
  rw [e, (lit2_bits p r).1, unitBits_eq _ (lit2_bits p r).2]

theorem b0_apply (c : Dev nD) (r : Fin 152) :
    ((iblk m c 4 pt0 : Vec Ideal S1x152 .f32) (ix2 0 r) : EReal) = ((B0z r.val : ℝ) : EReal) := by
  rw [blk4]
  have e : (S1x152.rowMajor (ix2 0 r)) = r := by
    refine Fin.ext ((Shape.rowMajor_val_two (d := ![1, 152]) _).trans ?_); show 0 * 152 + r.val = r.val; omega
  show Ideal.ofBits .f32 (lit3 (S1x152.rowMajor (ix2 0 r))) = _
  rw [e, (lit3_bits r).1, unitBits_eq _ (lit3_bits r).2]

/-! ## The bond matrix in zeros -/

theorem zeros_apply (r : Fin 80) (j : Fin 64) (L) :
    ((View.canon (Val := Elt Ideal) (e := .f32) (⟨Rect.unit (s := S80x64) ![0, 0] S80x64.size inb_S80x64_S80x64_0_0, k0_pay19 (F := Ideal)⟩ :: L)
      : Vec Ideal S80x64 .f32) (ix2 r j) : EReal) = 0 := by
  rw [View.canon_cons_unit_zero hz]
  pointwise [k0_pay19]

theorem wa_apply (c : Dev nD) (k : Fin 78) (j : Fin 64) :
    (View.ld (waT m c) (Rect.unit (s := S80x64) ![0, 0] S78x64.size inb_S80x64_S78x64_0_0) (ix2 k j) : EReal)
      = if h : 30 ≤ k.val ∧ 48 ≤ j.val then (inputs m c).bondW ⟨k.val - 30, by omega⟩ ⟨j.val - 48, by omega⟩ else 0 := by
  have e : (View.ld (waT m c) (Rect.unit (s := S80x64) ![0, 0] S78x64.size inb_S80x64_S78x64_0_0) (ix2 k j) : EReal)
      = waT m c (ix2 ⟨k.val, by omega⟩ j) := by
    refine congrArg (waT m c) (funext fun x => Fin.ext ?_)
    match x with
    | ⟨0, _⟩ => show 0 + 1 * k.val = k.val; omega
    | ⟨1, _⟩ => show 0 + 1 * j.val = j.val; omega
  rw [e, waT, blk19, bonds]
  by_cases hj : 48 ≤ j.val
  · refine (canon_hit _ _ _ _ _ (by omega)).trans ?_
    by_cases hk : 30 ≤ k.val
    · rw [dif_pos (by dsimp only; omega), dif_pos ⟨hk, hj⟩]
      pointwise [k0_pay20]
      rfl
    · rw [dif_neg (by dsimp only; omega), dif_neg (by omega)]
      exact zeros_apply _ _ _
  · refine (canon_skip _ _ _ _ _ (by omega)).trans ?_
    rw [dif_neg (by omega)]
    exact zeros_apply _ _ _

theorem stacked_zeros (r : Fin 152) (j : Fin 64) (L) :
    ((View.canon (Val := Elt Ideal) (e := .f32) (⟨Rect.unit (s := S152x64) ![0, 0] S152x64.size inb_S152x64_S152x64_0_0, k0_pay3 (F := Ideal)⟩ :: L)
      : Vec Ideal S152x64 .f32) (ix2 r j) : EReal) = 0 := by
  rw [View.canon_cons_unit_zero hz]
  pointwise [k0_pay3]

/-! ## The stacked tables, in the columns of one table -/

/-- A column that holds the `k` entries of `T` from row `a` on, and zeros. -/
def Holds (P : Fin 152 → EReal) (a k : ℕ) (T : Fin k → EReal) : Prop :=
  ∀ r : Fin 152, P r = if h : a ≤ r.val ∧ r.val < a + k then T ⟨r.val - a, by omega⟩ else 0

/-- Column `j` of the stacked tables. -/
def column (c : Dev nD) (j : Fin 64) (r : Fin 152) : EReal := stackedAt m c pt0 (ix2 r j)

theorem column_el (c : Dev nD) (j : Fin 64) (hj : 0 ≤ j.val ∧ j.val < 0 + 4) :
    Holds (column m c j) 0 7 (fun t => (inputs m c).el t ⟨j.val - 0, by omega⟩) := by
  intro r
  unfold column stackedAt stacked
  iterate 13 refine (canon_skip _ _ _ _ _ (by omega)).trans ?_
  refine (canon_hit _ _ _ _ _ hj).trans (dite_congr rfl (fun h => ?_) fun h => ?_)
  · rw [blk6]; pointwise [k0_pay4]; rfl
  · exact stacked_zeros _ _ _

theorem column_deg (c : Dev nD) (j : Fin 64) (hj : 4 ≤ j.val ∧ j.val < 4 + 4) :
    Holds (column m c j) 7 7 (fun t => (inputs m c).deg t ⟨j.val - 4, by omega⟩) := by
  intro r
  unfold column stackedAt stacked
  iterate 12 refine (canon_skip _ _ _ _ _ (by omega)).trans ?_
  refine (canon_hit _ _ _ _ _ hj).trans (dite_congr rfl (fun h => ?_) fun h => ?_)
  · rw [blk7]; pointwise [k0_pay5]; rfl
  · iterate 1 refine (canon_skip _ _ _ _ _ (by omega)).trans ?_
    exact stacked_zeros _ _ _

theorem column_ring (c : Dev nD) (j : Fin 64) (hj : 8 ≤ j.val ∧ j.val < 8 + 4) :
    Holds (column m c j) 14 2 (fun t => (inputs m c).ring t ⟨j.val - 8, by omega⟩) := by
  intro r
  unfold column stackedAt stacked
  iterate 11 refine (canon_skip _ _ _ _ _ (by omega)).trans ?_
  refine (canon_hit _ _ _ _ _ hj).trans (dite_congr rfl (fun h => ?_) fun h => ?_)
  · rw [blk8]; pointwise [k0_pay6]; rfl
  · iterate 2 refine (canon_skip _ _ _ _ _ (by omega)).trans ?_
    exact stacked_zeros _ _ _

theorem column_chg (c : Dev nD) (j : Fin 64) (hj : 12 ≤ j.val ∧ j.val < 12 + 4) :
    Holds (column m c j) 16 8 (fun t => (inputs m c).chg t ⟨j.val - 12, by omega⟩) := by
  intro r
  unfold column stackedAt stacked
  iterate 10 refine (canon_skip _ _ _ _ _ (by omega)).trans ?_
  refine (canon_hit _ _ _ _ _ hj).trans (dite_congr rfl (fun h => ?_) fun h => ?_)
  · rw [blk9]; pointwise [k0_pay7]; rfl
  · iterate 3 refine (canon_skip _ _ _ _ _ (by omega)).trans ?_
    exact stacked_zeros _ _ _

theorem column_aro (c : Dev nD) (j : Fin 64) (hj : 16 ≤ j.val ∧ j.val < 16 + 4) :
    Holds (column m c j) 24 2 (fun t => (inputs m c).aro t ⟨j.val - 16, by omega⟩) := by
  intro r
  unfold column stackedAt stacked
  iterate 9 refine (canon_skip _ _ _ _ _ (by omega)).trans ?_
  refine (canon_hit _ _ _ _ _ hj).trans (dite_congr rfl (fun h => ?_) fun h => ?_)
  · rw [blk10]; pointwise [k0_pay8]; rfl
  · iterate 4 refine (canon_skip _ _ _ _ _ (by omega)).trans ?_
    exact stacked_zeros _ _ _

theorem column_hyb (c : Dev nD) (j : Fin 64) (hj : 20 ≤ j.val ∧ j.val < 20 + 4) :
    Holds (column m c j) 26 6 (fun t => (inputs m c).hyb t ⟨j.val - 20, by omega⟩) := by
  intro r
  unfold column stackedAt stacked
  iterate 8 refine (canon_skip _ _ _ _ _ (by omega)).trans ?_
  refine (canon_hit _ _ _ _ _ hj).trans (dite_congr rfl (fun h => ?_) fun h => ?_)
  · rw [blk11]; pointwise [k0_pay9]; rfl
  · iterate 5 refine (canon_skip _ _ _ _ _ (by omega)).trans ?_
    exact stacked_zeros _ _ _

theorem column_hyd (c : Dev nD) (j : Fin 64) (hj : 24 ≤ j.val ∧ j.val < 24 + 4) :
    Holds (column m c j) 32 5 (fun t => (inputs m c).hyd t ⟨j.val - 24, by omega⟩) := by
  intro r
  unfold column stackedAt stacked
  iterate 7 refine (canon_skip _ _ _ _ _ (by omega)).trans ?_
  refine (canon_hit _ _ _ _ _ hj).trans (dite_congr rfl (fun h => ?_) fun h => ?_)
  · rw [blk12]; pointwise [k0_pay10]; rfl
  · iterate 6 refine (canon_skip _ _ _ _ _ (by omega)).trans ?_
    exact stacked_zeros _ _ _

theorem column_func (c : Dev nD) (j : Fin 64) (hj : 28 ≤ j.val ∧ j.val < 28 + 4) :
    Holds (column m c j) 37 36 (fun t => (iblk m c 13 pt0 : Vec Ideal S36x4 .f32) (ix2 t ⟨j.val - 28, by omega⟩)) := by
  intro r
  unfold column stackedAt stacked
  iterate 6 refine (canon_skip _ _ _ _ _ (by omega)).trans ?_
  refine (canon_hit _ _ _ _ _ hj).trans (dite_congr rfl (fun h => ?_) fun h => ?_)
  · pointwise [k0_pay11]
  · iterate 7 refine (canon_skip _ _ _ _ _ (by omega)).trans ?_
    exact stacked_zeros _ _ _

theorem column_don (c : Dev nD) (j : Fin 64) (hj : 32 ≤ j.val ∧ j.val < 32 + 2) :
    Holds (column m c j) 73 2 (fun t => (inputs m c).don t ⟨j.val - 32, by omega⟩) := by
  intro r
  unfold column stackedAt stacked
  iterate 5 refine (canon_skip _ _ _ _ _ (by omega)).trans ?_
  refine (canon_hit _ _ _ _ _ hj).trans (dite_congr rfl (fun h => ?_) fun h => ?_)
  · rw [blk14]; pointwise [k0_pay12]; rfl
  · iterate 8 refine (canon_skip _ _ _ _ _ (by omega)).trans ?_
    exact stacked_zeros _ _ _

theorem column_acc (c : Dev nD) (j : Fin 64) (hj : 34 ≤ j.val ∧ j.val < 34 + 2) :
    Holds (column m c j) 75 2 (fun t => (inputs m c).acc t ⟨j.val - 34, by omega⟩) := by
  intro r
  unfold column stackedAt stacked
  iterate 4 refine (canon_skip _ _ _ _ _ (by omega)).trans ?_
  refine (canon_hit _ _ _ _ _ hj).trans (dite_congr rfl (fun h => ?_) fun h => ?_)
  · rw [blk15]; pointwise [k0_pay13]; rfl
  · iterate 9 refine (canon_skip _ _ _ _ _ (by omega)).trans ?_
    exact stacked_zeros _ _ _

theorem column_rsz (c : Dev nD) (j : Fin 64) (hj : 36 ≤ j.val ∧ j.val < 36 + 4) :
    Holds (column m c j) 77 7 (fun t => (inputs m c).rsz t ⟨j.val - 36, by omega⟩) := by
  intro r
  unfold column stackedAt stacked
  iterate 3 refine (canon_skip _ _ _ _ _ (by omega)).trans ?_
  refine (canon_hit _ _ _ _ _ hj).trans (dite_congr rfl (fun h => ?_) fun h => ?_)
  · rw [blk16]; pointwise [k0_pay14]; rfl
  · iterate 10 refine (canon_skip _ _ _ _ _ (by omega)).trans ?_
    exact stacked_zeros _ _ _

theorem column_arn (c : Dev nD) (j : Fin 64) (hj : 40 ≤ j.val ∧ j.val < 40 + 4) :
    Holds (column m c j) 84 5 (fun t => (inputs m c).arn t ⟨j.val - 40, by omega⟩) := by
  intro r
  unfold column stackedAt stacked
  iterate 2 refine (canon_skip _ _ _ _ _ (by omega)).trans ?_
  refine (canon_hit _ _ _ _ _ hj).trans (dite_congr rfl (fun h => ?_) fun h => ?_)
  · rw [blk17]; pointwise [k0_pay15]; rfl
  · iterate 11 refine (canon_skip _ _ _ _ _ (by omega)).trans ?_
    exact stacked_zeros _ _ _

theorem column_fus (c : Dev nD) (j : Fin 64) (hj : 44 ≤ j.val ∧ j.val < 44 + 4) :
    Holds (column m c j) 89 8 (fun t => (inputs m c).fus t ⟨j.val - 44, by omega⟩) := by
  intro r
  unfold column stackedAt stacked
  iterate 1 refine (canon_skip _ _ _ _ _ (by omega)).trans ?_
  refine (canon_hit _ _ _ _ _ hj).trans (dite_congr rfl (fun h => ?_) fun h => ?_)
  · rw [blk18]; pointwise [k0_pay16]; rfl
  · iterate 12 refine (canon_skip _ _ _ _ _ (by omega)).trans ?_
    exact stacked_zeros _ _ _

/-- In the bond environment's columns the rows of every other table are zero. -/
theorem column_bond (c : Dev nD) (j : Fin 64) (hj : 48 ≤ j.val ∧ j.val < 48 + 16) (r : Fin 152) (hr : r.val < 97) :
    column m c j r = 0 := by
  unfold column stackedAt stacked
  refine (canon_hit _ _ _ _ _ hj).trans ((dif_neg (by omega)).trans ?_)
  iterate 13 refine (canon_skip _ _ _ _ _ (by omega)).trans ?_
  exact stacked_zeros _ _ _

end Cert.KernelIdeal.Atom

end
-- ==== Proof.KValue.lean ====
/-
  The kernel's result, entry by entry: where the categorical columns hold integers and the tables real numbers it is the
  entry of the model.
-/
module

public import proofs.«01_k».proof.Proof.KTables

@[expose] public section

set_option maxRecDepth 16384

noncomputable section

open Idealize.ShloMosaic Idealize.ShloMosaic.TcCoe Idealize.SL.Sem

namespace Cert.Atom

/-- A real number, not an infinity. -/
def IsReal (e : EReal) : Prop := ∃ x : ℝ, e = (x : EReal)

theorem isReal_sum {ι : Type} [Fintype ι] (f : ι → EReal) (h : ∀ i, IsReal (f i)) : IsReal (∑ i, f i) := by
  choose g hg using h
  exact ⟨∑ i, g i, by rw [coe_sum]; exact Finset.sum_congr rfl fun i _ => hg i⟩

theorem IsReal.mul {a b : EReal} : IsReal a → IsReal b → IsReal (a * b) := by
  rintro ⟨x, rfl⟩ ⟨y, rfl⟩
  exact ⟨x * y, (EReal.coe_mul x y).symm⟩

/-- The tables hold real numbers. -/
structure Inputs.Real (I : Inputs) : Prop where
  el : ∀ i k, IsReal (I.el i k)
  deg : ∀ i k, IsReal (I.deg i k)
  ring : ∀ i k, IsReal (I.ring i k)
  chg : ∀ i k, IsReal (I.chg i k)
  aro : ∀ i k, IsReal (I.aro i k)
  hyb : ∀ i k, IsReal (I.hyb i k)
  hyd : ∀ i k, IsReal (I.hyd i k)
  func : ∀ i k l, IsReal (I.func i k l)
  don : ∀ i k, IsReal (I.don i k)
  acc : ∀ i k, IsReal (I.acc i k)
  rsz : ∀ i k, IsReal (I.rsz i k)
  arn : ∀ i k, IsReal (I.arn i k)
  fus : ∀ i k, IsReal (I.fus i k)
  redW : ∀ i k, IsReal (I.redW i k)

/-- The categorical columns of row `i` hold the integers `code`. -/
def Inputs.Codes (I : Inputs) (i : Fin 100000) (code : ℕ → ℤ) : Prop :=
  ∀ k : Fin 78, k.val < 30 → I.x i k = ((code k.val : ℝ) : EReal)

end Cert.Atom

namespace Cert.KernelIdeal.Atom

open Cert.KernelIdeal Cert.KernelIdeal.Gen Cert.KernelIdeal.Value Cert.Atom
variable (m : (ℓ : Loc nD τ sig) → Buf (Elt Ideal) ℓ)

/-- The row added: zeros and the two biases. -/
def extra (c : Dev nD) (j : Fin 64) : EReal := (iblk m c 5 pt0 : Vec Ideal S1x64 .f32) (ix2 0 j)

/-- The bond environment's product. -/
def bondSum (c : Dev nD) (i : Fin 100000) (j : Fin 64) : EReal := ∑ k : Fin 78, (inputs m c).x i k *
  if h : 30 ≤ k.val ∧ 48 ≤ j.val then (inputs m c).bondW ⟨k.val - 30, by omega⟩ ⟨j.val - 48, by omega⟩ else 0

/-! The constants' entries, as extended reals. -/
def selE (c : Dev nD) (t : Fin cfg0.N) (k : Fin 78) (p : Fin 128) : EReal := (iblk m c 1 t : Vec Ideal S78x128 .f32) (ix2 k p)
def loE (c : Dev nD) (t : Fin cfg0.N) (p : Fin 128) : EReal := (iblk m c 2 t : Vec Ideal S1x128 .f32) (ix2 0 p)
def dE (c : Dev nD) (p : Fin 128) (r : Fin 152) : EReal := (iblk m c 3 pt0 : Vec Ideal S128x152 .f32) (ix2 p r)
def bE (c : Dev nD) (r : Fin 152) : EReal := (iblk m c 4 pt0 : Vec Ideal S1x152 .f32) (ix2 0 r)

theorem selE_eq (c : Dev nD) (t : Fin cfg0.N) (k : Fin 78) (p : Fin 128) :
    selE m c t k p = if p.val < 79 ∧ k.val = colp p.val then 1 else 0 := sel_apply m c t k p
theorem loE_eq (c : Dev nD) (t : Fin cfg0.N) (p : Fin 128) (hp : p.val < 79) :
    loE m c t p = (((thr2 p.val : ℝ) / 2 : ℝ) : EReal) := lo_apply m c t p hp
theorem dE_eq (c : Dev nD) (p : Fin 128) (r : Fin 152) : dE m c p r = ((Dz p.val r.val : ℝ) : EReal) := d_apply m c p r
theorem bE_eq (c : Dev nD) (r : Fin 152) : bE m c r = ((B0z r.val : ℝ) : EReal) := b0_apply m c r

/-- The step at position `p` of row `i`. -/
def stepE (c : Dev nD) (i : Fin 100000) (p : Fin 128) : EReal :=
  if loE m c (ptOf i) p ≤ ∑ k : Fin 78, (inputs m c).x i k * selE m c (ptOf i) k p then 1 else 0

theorem wdT_apply (c : Dev nD) (p : Fin 128) (j : Fin 64) :
    (wdT m c (ix2 p j) : EReal) = ∑ r : Fin 152, dE m c p r * column m c j r := pay18_apply _ _ p j

theorem biasT_apply (c : Dev nD) (j : Fin 64) :
    (biasT m c (ix2 0 j) : EReal) = (∑ r : Fin 152, bE m c r * column m c j r) + extra m c j := pay21_apply _ _ _ j

theorem result_apply (c : Dev nD) (i : Fin 100000) (j : Fin 64) : ((G20 m c : Vec Ideal S100000x64 .f32) (ix2 i j) : EReal)
    = ((∑ p : Fin 128, stepE m c i p * ∑ r : Fin 152, dE m c p r * column m c j r) + bondSum m c i j)
      + ((∑ r : Fin 152, bE m c r * column m c j r) + extra m c j) := by
  have hblk : ∀ k : Fin 78, ((iblk m c 0 (ptOf i) : Vec Ideal S20000x78 .f32) (ix2 ⟨i.val % 20000, Nat.mod_lt _ (by decide)⟩ k) : EReal)
      = (inputs m c).x i k := fun k => blk0 m c (ptOf i) ⟨i.val % 20000, Nat.mod_lt _ (by decide)⟩ k i (by
    show i.val = 20000 * (i.val / 20000) + i.val % 20000
    omega)
  rw [G20_apply, outBlk, pay2_apply, biasT_apply]
  refine congrArg (· + _) (congrArg₂ (· + ·) (Finset.sum_congr rfl fun p _ => ?_) (Finset.sum_congr rfl fun k _ => ?_))
  · rw [wdT_apply]
    refine congrArg (· * _) (if_congr (iff_of_eq (congrArg (loE m c (ptOf i) p ≤ ·) (Finset.sum_congr rfl fun k _ => ?_))) rfl rfl)
    rw [hblk]
    rfl
  · rw [hblk, wa_apply]

/-- The column a position compares. -/
theorem sum_sel (c : Dev nD) (i : Fin 100000) (code : ℕ → ℤ) (hx : (inputs m c).Codes i code) (p : Fin 128) (hp : p.val < 79) :
    ∑ k : Fin 78, (inputs m c).x i k * selE m c (ptOf i) k p = ((code (colp p.val) : ℝ) : EReal) := by
  have hc : colp p.val < 30 := colp_lt ⟨p.val, hp⟩
  rw [Finset.sum_eq_single (⟨colp p.val, by omega⟩ : Fin 78)]
  · rw [selE_eq, if_pos ⟨hp, rfl⟩, mul_one, hx _ hc]
  · intro k _ hk
    rw [selE_eq, if_neg fun h => hk (Fin.ext h.2), mul_zero]
  · exact fun h => absurd (Finset.mem_univ _) h

/-- A step is taken where the integer reaches the threshold. -/
theorem stepE_eq (c : Dev nD) (i : Fin 100000) (code : ℕ → ℤ) (hx : (inputs m c).Codes i code) (p : Fin 128) (hp : p.val < 79) :
    stepE m c i p = if thr2 p.val ≤ 2 * code (colp p.val) then 1 else 0 := by
  unfold stepE
  rw [sum_sel m c i code hx p hp, loE_eq m c _ p hp]
  generalize thr2 p.val = t
  generalize code (colp p.val) = w
  refine if_congr ?_ rfl rfl
  rw [EReal.coe_le_coe_iff, div_le_iff₀ (by norm_num : (0 : ℝ) < 2), show (w : ℝ) * 2 = ((2 * w : ℤ) : ℝ) by push_cast; ring, Int.cast_le]

/-- An entry of the result: the rows looked up, the bond environment, and the row added. -/
theorem kernel_row (c : Dev nD) (i : Fin 100000) (j : Fin 64) (code : ℕ → ℤ) (hx : (inputs m c).Codes i code)
    (Q : Fin 152 → ℝ) (hP : ∀ r : Fin 152, r.val < 97 → column m c j r = (Q r : EReal))
    (hQ : ∀ r : Fin 152, 97 ≤ r.val → Q r = 0) :
    ((G20 m c : Vec Ideal S100000x64 .f32) (ix2 i j) : EReal) = (hotSum code Q : EReal) + bondSum m c i j + extra m c j := by
  rw [result_apply, ← steps_hot code (column m c j) Q hP hQ (stepE m c i) (stepE_eq m c i code hx) (dE m c) (dE_eq m c) (bE m c) (bE_eq m c),
    add_add_add_comm]
  simp only [add_assoc]

/-- An entry of a table whose column is looked up: nothing of the bond environment. -/
theorem kernel_table (c : Dev nD) (i : Fin 100000) (j : Fin 64) (code : ℕ → ℤ) (hx : (inputs m c).Codes i code) {a k : ℕ}
    {T : Fin k → EReal} (hT : Holds (column m c j) a k T) (hj : j.val < 48) (hreal : ∀ t, IsReal (T t)) (hak : a + k ≤ 97) (col : ℕ)
    (hcol : ∀ r, r < a + k → a ≤ r → colOf r = col) (t : Fin k) (ht : hotRow col (code col) = a + t.val) :
    ((G20 m c : Vec Ideal S100000x64 .f32) (ix2 i j) : EReal) = T t + extra m c j := by
  choose R hR using hreal
  have hQ : ∀ r : Fin 152, column m c j r = ((if h : a ≤ r.val ∧ r.val < a + k then R ⟨r.val - a, by omega⟩ else 0 : ℝ) : EReal) := by
    intro r
    rw [hT r]
    split_ifs
    · exact hR _
    · rfl
  rw [kernel_row m c i j code hx _ (fun r _ => hQ r) (fun r hr => dif_neg (by omega)),
    hotSum_single code _ col a k (fun r h1 h2 => hcol r h2 h1) (fun r hr => dif_neg hr) ⟨a + t.val, by omega⟩ ht.symm
      ⟨by dsimp only; omega, by dsimp only; omega⟩, ← hQ, hT, dif_pos ⟨by dsimp only; omega, by dsimp only; omega⟩]
  have hb : bondSum m c i j = 0 := Finset.sum_eq_zero fun k _ => by rw [dif_neg (by omega), mul_zero]
  rw [hb, add_zero]
  congr 2
  exact Fin.ext (by dsimp only; omega)

/-- No bias falls on the tables' columns. -/
theorem extra_zero (c : Dev nD) (j : Fin 64) (hj : j.val < 28 ∨ 32 ≤ j.val ∧ j.val < 48) : extra m c j = 0 := by
  unfold extra
  rw [blk5]
  rcases hj with hj | hj
  · rw [if_pos hj]
  · rw [if_neg (by omega), dif_neg (by omega), if_pos hj.2]

/-- An entry of the flags' columns. -/
theorem kernel_flags (c : Dev nD) (i : Fin 100000) (j : Fin 64) (code : ℕ → ℤ) (hx : (inputs m c).Codes i code)
    (hr : (inputs m c).Real) (hj : 28 ≤ j.val ∧ j.val < 28 + 4) :
    ((G20 m c : Vec Ideal S100000x64 .f32) (ix2 i j) : EReal)
      = (∑ q : Fin 36, flags (inputs m c) code q * (inputs m c).redW q ⟨j.val - 28, by omega⟩) + (inputs m c).redB ⟨j.val - 28, by omega⟩ := by
  have hT := column_func m c j hj
  have hreal : ∀ t : Fin 36, IsReal ((iblk m c 13 pt0 : Vec Ideal S36x4 .f32) (ix2 t ⟨j.val - 28, by omega⟩)) := by
    intro t
    rw [blk13]
    exact isReal_sum _ fun x => (hr.func _ _ _).mul (hr.redW _ _)
  choose R hR using hreal
  have hQ : ∀ r : Fin 152, column m c j r = ((if h : 37 ≤ r.val ∧ r.val < 37 + 36 then R ⟨r.val - 37, by omega⟩ else 0 : ℝ) : EReal) := by
    intro r
    rw [hT r]
    split_ifs
    · exact hR _
    · rfl
  have hb : bondSum m c i j = 0 := Finset.sum_eq_zero fun k _ => by rw [dif_neg (by omega), mul_zero]
  have he : extra m c j = (inputs m c).redB ⟨j.val - 28, by omega⟩ := by
    unfold extra
    rw [blk5, if_neg (by omega), dif_pos (by omega)]
  rw [kernel_row m c i j code hx _ (fun r _ => hQ r) (fun r hr => dif_neg (by omega)), hb, add_zero, he,
    hotSum_flags code _ (fun r hr => dif_neg hr), coe_sum, sum_pairs]
  refine congrArg (· + _) (Finset.sum_congr rfl fun q _ => ?_)
  have hclip : (clip 1 (code (7 + q.val))).val < 2 := (clip 1 (code (7 + q.val))).isLt
  rw [← hQ, hT, dif_pos ⟨by dsimp only; omega, by dsimp only; omega⟩]
  refine Eq.trans (α := EReal) (blk13 m c _ _) ?_
  refine Finset.sum_congr rfl fun x _ => ?_
  unfold flags
  dsimp only
  have e1 : (2 * q.val + x.val) / 2 = q.val := by omega
  have e2 : (2 * q.val + x.val) % 2 = x.val := by omega
  have e3 : (37 + 2 * q.val + (clip 1 (code (7 + q.val))).val - 37) / 2 = q.val := by omega
  have e4 : (37 + 2 * q.val + (clip 1 (code (7 + q.val))).val - 37) % 2 = (clip 1 (code (7 + q.val))).val := by omega
  simp only [e1, e2, e3, e4, mul_comm q.val 2]

/-- An entry of the bond environment's columns. -/
theorem kernel_bond (c : Dev nD) (i : Fin 100000) (j : Fin 64) (code : ℕ → ℤ) (hx : (inputs m c).Codes i code)
    (hj : 48 ≤ j.val ∧ j.val < 48 + 16) :
    ((G20 m c : Vec Ideal S100000x64 .f32) (ix2 i j) : EReal)
      = (∑ k : Fin 48, (inputs m c).x i ⟨30 + k.val, by omega⟩ * (inputs m c).bondW k ⟨j.val - 48, by omega⟩)
        + (inputs m c).bondB ⟨j.val - 48, by omega⟩ := by
  have he : extra m c j = (inputs m c).bondB ⟨j.val - 48, by omega⟩ := by
    unfold extra
    rw [blk5, if_neg (by omega), dif_neg (by omega), if_neg (by omega)]
  have h0 : hotSum code (fun _ => 0) = 0 := Finset.sum_eq_zero fun r _ => ite_self _
  rw [kernel_row m c i j code hx (fun _ => 0) (fun r hr => column_bond m c j hj r hr) (fun _ _ => rfl), h0, EReal.coe_zero, zero_add, he]
  refine congrArg (· + _) ?_
  symm
  refine Finset.sum_of_injOn (fun k : Fin 48 => (⟨30 + k.val, by omega⟩ : Fin 78)) ?_ (fun _ _ => Finset.mem_coe.2 (Finset.mem_univ _)) ?_ ?_
  · intro a _ b _ h
    have := congrArg Fin.val h
    exact Fin.ext (by simpa using this)
  · intro k _ hk
    rw [dif_neg, mul_zero]
    intro h
    exact hk ⟨⟨k.val - 30, by omega⟩, Finset.mem_coe.2 (Finset.mem_univ _), Fin.ext (by simp; omega)⟩
  · intro k _
    rw [dif_pos ⟨by dsimp only; omega, hj.1⟩]
    congr 2
    exact Fin.ext (by dsimp only; omega)

/-- The kernel's result is the model's. -/
theorem kernel_value (c : Dev nD) (i : Fin 100000) (j : Fin 64) (code : ℕ → ℤ) (hx : (inputs m c).Codes i code)
    (hr : (inputs m c).Real) :
    ((G20 m c : Vec Ideal S100000x64 .f32) (ix2 i j) : EReal) = entry (inputs m c) code i j := by
  unfold entry
  by_cases h1 : j.val < 4
  · rw [dif_pos h1, kernel_table m c i j code hx (column_el m c j (by omega)) (by omega) (fun t => hr.el t _) (by omega) 0 (by decide)
      (elementRow (code 0)) (Nat.zero_add _).symm, extra_zero m c j (by omega), add_zero]; rfl
  rw [dif_neg h1]
  by_cases h2 : j.val < 8
  · rw [dif_pos h2, kernel_table m c i j code hx (column_deg m c j (by omega)) (by omega) (fun t => hr.deg t _) (by omega) 1 (by decide)
      (clip 6 (code 1)) rfl, extra_zero m c j (by omega), add_zero]
  rw [dif_neg h2]
  by_cases h3 : j.val < 12
  · rw [dif_pos h3, kernel_table m c i j code hx (column_ring m c j (by omega)) (by omega) (fun t => hr.ring t _) (by omega) 5 (by decide)
      (clip 1 (code 5 + 1)) rfl, extra_zero m c j (by omega), add_zero]
  rw [dif_neg h3]
  by_cases h4 : j.val < 16
  · rw [dif_pos h4, kernel_table m c i j code hx (column_chg m c j (by omega)) (by omega) (fun t => hr.chg t _) (by omega) 2 (by decide)
      (clip 7 (code 2)) rfl, extra_zero m c j (by omega), add_zero]
  rw [dif_neg h4]
  by_cases h5 : j.val < 20
  · rw [dif_pos h5, kernel_table m c i j code hx (column_aro m c j (by omega)) (by omega) (fun t => hr.aro t _) (by omega) 4 (by decide)
      (clip 1 (code 4)) rfl, extra_zero m c j (by omega), add_zero]
  rw [dif_neg h5]
  by_cases h6 : j.val < 24
  · rw [dif_pos h6, kernel_table m c i j code hx (column_hyb m c j (by omega)) (by omega) (fun t => hr.hyb t _) (by omega) 3 (by decide)
      (clip 5 (code 3)) rfl, extra_zero m c j (by omega), add_zero]
  rw [dif_neg h6]
  by_cases h7 : j.val < 28
  · rw [dif_pos h7, kernel_table m c i j code hx (column_hyd m c j (by omega)) (by omega) (fun t => hr.hyd t _) (by omega) 6 (by decide)
      (clip 4 (code 6)) rfl, extra_zero m c j (by omega), add_zero]
  rw [dif_neg h7]
  by_cases h8 : j.val < 32
  · rw [dif_pos h8]
    exact kernel_flags m c i j code hx hr (by omega)
  rw [dif_neg h8]
  by_cases h9 : j.val < 34
  · rw [dif_pos h9, kernel_table m c i j code hx (column_don m c j (by omega)) (by omega) (fun t => hr.don t _) (by omega) 25 (by decide)
      (clip 1 (code 25)) rfl, extra_zero m c j (by omega), add_zero]
  rw [dif_neg h9]
  by_cases h10 : j.val < 36
  · rw [dif_pos h10, kernel_table m c i j code hx (column_acc m c j (by omega)) (by omega) (fun t => hr.acc t _) (by omega) 26 (by decide)
      (clip 1 (code 26)) rfl, extra_zero m c j (by omega), add_zero]
  rw [dif_neg h10]
  by_cases h11 : j.val < 40
  · rw [dif_pos h11, kernel_table m c i j code hx (column_rsz m c j (by omega)) (by omega) (fun t => hr.rsz t _) (by omega) 27 (by decide)
      (ringSizeRow (code 27)) rfl, extra_zero m c j (by omega), add_zero]
  rw [dif_neg h11]
  by_cases h12 : j.val < 44
  · rw [dif_pos h12, kernel_table m c i j code hx (column_arn m c j (by omega)) (by omega) (fun t => hr.arn t _) (by omega) 28 (by decide)
      (clip 4 (code 28)) rfl, extra_zero m c j (by omega), add_zero]
  rw [dif_neg h12]
  by_cases h13 : j.val < 48
  · rw [dif_pos h13, kernel_table m c i j code hx (column_fus m c j (by omega)) (by omega) (fun t => hr.fus t _) (by omega) 29 (by decide)
      (clip 7 (code 29)) rfl, extra_zero m c j (by omega), add_zero]
  rw [dif_neg h13]
  exact kernel_bond m c i j code hx (by omega)

end Cert.KernelIdeal.Atom

end
-- ==== Proof.RWords.lean ====
/-
  The words the reference looks its tables up with, as numbers: what each word computed from a column is, in terms of
  the integer the column holds, and the row a lookup with such a word takes.
-/
module

public import proofs.«01_k».proof.Proof.Model
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem Idealize.ShloMosaic.Routing

namespace Cert.ReferenceIdeal.Atom

open Cert.ReferenceIdeal Cert.ReferenceIdeal.Gen Cert.ReferenceIdeal.Value Cert.Atom

/-- The word of column `k` of atom `i`. -/
def word (V : Valuation τ sig (Elt Ideal)) (i : Fin 100000) (k : Fin 78) : BitVec 32 :=
  (res_main_v0 (F := Ideal) V : IVec S100000x78 32) (ix2 i k)

/-- The integer column `k` of atom `i` holds. -/
def code (V : Valuation τ sig (Elt Ideal)) (i : Fin 100000) (k : ℕ) : ℤ :=
  if h : k < 78 then (word V i ⟨k, h⟩).toInt else 0

/-- A word clipped to `0 … k` is the clipped number. -/
theorem clip_toInt (w : BitVec 32) (k : ℕ) (hk : k < 100) :
    IntOp.minsi (BitVec.ofNat 32 k) (IntOp.maxsi 0#32 w) = BitVec.ofNat 32 (clip k w.toInt).val := by
  have hK : (BitVec.ofNat 32 k).toInt = (k : ℤ) := StableHlo.Predicate.toInt_ofNat_small _ (by omega)
  have h0 : (0#32 : BitVec 32).toInt = 0 := rfl
  apply BitVec.eq_of_toInt_eq
  rw [StableHlo.Predicate.toInt_ofNat_small _ (by have := (clip k w.toInt).isLt; omega)]
  unfold IntOp.minsi IntOp.maxsi clip
  simp only [BitVec.slt, h0, hK]
  by_cases hw : w.toInt < 0
  · simp only [hw, decide_true, if_true, h0]
    split <;> simp_all <;> omega
  · simp only [hw, decide_false, Bool.false_eq_true, if_false]
    split <;> simp_all <;> omega

/-- The row a table of `nb` rows is read at: the row the word counts. -/
theorem lookup {α : Type} {nb B : ℕ} (d : GatherDims (shape2 nb B) S100000x1 (shape2 100000 B)) (hoff : d.offsetDims = [1])
    (hcoll : d.collapsedSliceDims = [0]) (hob : d.operandBatchingDims = []) (hsim : d.startIndexMap = [0]) (hivd : d.indexVectorDim = 1)
    (x : (shape2 nb B).Idx → α) (w : IVec S100000 32) (N : BitVec 32) (hb₁) (hb₂) (hb₃) (i : Fin 100000) (y : Fin B) (r : Fin nb)
    (hw : w (ix1 i) = BitVec.ofNat 32 r.val) (hnb : nb < 2 ^ 31) :
    Host.gather d x (broadcastInDim S100000x1 ![0] hb₁
      (select (cmpi .slt w (broadcastInDim S100000 ![] hb₂ (constantI S_ 32 0#32)))
        (addi w (broadcastInDim S100000 ![] hb₃ (constantI S_ 32 N))) w)) (ix2 i y) = x (ix2 r y) := by
  refine Routing.gather_row d hoff hcoll hob hsim hivd x _ i y r ?_ hnb
  pointwise
  rw [← hw]
  apply Routing.wrap_of_lt
  rw [hw, BitVec.toNat_ofNat]
  have := r.isLt
  omega

variable (V : Valuation τ sig (Elt Ideal)) (i : Fin 100000)

theorem code_eq (k : ℕ) (h : k < 78) : code V i k = (word V i ⟨k, h⟩).toInt := dif_pos h

/-- The word of a ring size's row. -/
theorem ringSize_word (w : BitVec 32) :
    (Scalar.select (IntOp.cmpi .eq w 8#32) 6#32 (Scalar.select (IntOp.cmpi .eq w 7#32) 5#32
      (Scalar.select (IntOp.cmpi .eq w 6#32) 4#32 (Scalar.select (IntOp.cmpi .eq w 5#32) 3#32
      (Scalar.select (IntOp.cmpi .eq w 4#32) 2#32 (Scalar.select (IntOp.cmpi .eq w 3#32) 1#32
      (Scalar.select (IntOp.cmpi .eq w 0#32) 0#32 6#32))))))) = BitVec.ofNat 32 (ringSizeRow w.toInt).val := by
  have hne : ∀ b : BitVec 32, ¬ w = b → ¬ w.toInt = b.toInt := fun b h e => h (BitVec.eq_of_toInt_eq e)
  simp only [WordCmp.cmpi_eq_eq, WordCmp.select_decide]
  by_cases h8 : w = 8#32
  · subst h8; rfl
  by_cases h7 : w = 7#32
  · subst h7; rfl
  by_cases h6 : w = 6#32
  · subst h6; rfl
  by_cases h5 : w = 5#32
  · subst h5; rfl
  by_cases h4 : w = 4#32
  · subst h4; rfl
  by_cases h3 : w = 3#32
  · subst h3; rfl
  by_cases h0 : w = 0#32
  · subst h0; rfl
  simp only [h8, h7, h6, h5, h4, h3, h0, if_false, ringSizeRow]
  rw [if_neg (show ¬ w.toInt = 0 from hne 0#32 h0), if_neg (show ¬ w.toInt = 3 from hne 3#32 h3),
    if_neg (show ¬ w.toInt = 4 from hne 4#32 h4), if_neg (show ¬ w.toInt = 5 from hne 5#32 h5),
    if_neg (show ¬ w.toInt = 6 from hne 6#32 h6), if_neg (show ¬ w.toInt = 7 from hne 7#32 h7)]
  rfl

/-- A row counted by a word is left by a clip to the table's last row. -/
theorem clip_row (r : Fin 7) : IntOp.minsi 6#32 (IntOp.maxsi 0#32 (BitVec.ofNat 32 r.val)) = BitVec.ofNat 32 r.val := by
  revert r; decide

/-- The atomic number the element's lookup is made with: the column's where it is in the lookup's range, none otherwise. -/
theorem atomic_word (w : BitVec 32) :
    Scalar.select (IntOp.andi (IntOp.cmpi .sge w 0#32) (IntOp.cmpi .sle w 16#32)) w 0#32
    = BitVec.ofNat 32 (if 0 ≤ w.toInt ∧ w.toInt ≤ 16 then w.toInt.toNat else 0) := by
  rw [WordCmp.cmpi_sge_eq, WordCmp.cmpi_sle_eq, WordCmp.andi_ofBool, ← Bool.decide_and, WordCmp.select_decide]
  change (if 0 ≤ w.toInt ∧ w.toInt ≤ 16 then w else 0#32) = _
  by_cases h : 0 ≤ w.toInt ∧ w.toInt ≤ 16
  · rw [if_pos h, if_pos h]
    apply BitVec.eq_of_toInt_eq
    rw [StableHlo.Predicate.toInt_ofNat_small _ (by omega)]
    omega
  · rw [if_neg h, if_neg h]

/-- What the lookup of an atomic number in range gives. -/
theorem element_table (b : Fin 17) : lit0 (S17.rowMajor (ix1 b)) = BitVec.ofNat 32 (elementRow (b.val : ℤ)).val := by
  have : S17.rowMajor (ix1 b) = b := Fin.ext (by simp [Shape.rowMajor_val_one])
  rw [this]
  clear this
  revert b; decide

theorem v8_eq : (res_main_v8 (F := Ideal) V : IVec S100000 32) (ix1 i)
    = BitVec.ofNat 32 (if 0 ≤ code V i 0 ∧ code V i 0 ≤ 16 then (code V i 0).toNat else 0) := by
  pointwise [res_main_v8, res_main_v2]
  exact atomic_word (word V i 0)

theorem v16_eq : (res_main_v16 (F := Ideal) V : IVec S100000 32) (ix1 i) = BitVec.ofNat 32 (elementRow (code V i 0)).val := by
  have hb : (if 0 ≤ code V i 0 ∧ code V i 0 ≤ 16 then (code V i 0).toNat else 0) < 17 := by split <;> omega
  have hg : Host.gather gather_S17_S100000x1_S100000_n_0_n_n_0_1_1 (fun i => lit0 (S17.rowMajor i))
          (broadcastInDim S100000x1 ![0] bcast_S100000_S100000x1_0
            (select (cmpi .slt (res_main_v8 (F := Ideal) V) (broadcastInDim S100000 ![] bcast_S_S100000 (constantI S_ 32 0#32)))
              (addi (res_main_v8 (F := Ideal) V) (broadcastInDim S100000 ![] bcast_S_S100000 (constantI S_ 32 17#32)))
              (res_main_v8 (F := Ideal) V))) (ix1 i) = BitVec.ofNat 32 (elementRow (code V i 0)).val := by
    refine (gather_take1 _ rfl rfl rfl rfl _ _ i ⟨_, hb⟩ ?_ (by norm_num)).trans ?_
    · pointwise
      rw [v8_eq]
      apply wrap_of_lt
      rw [BitVec.toNat_ofNat]
      omega
    · refine (element_table _).trans ?_
      by_cases h : 0 ≤ code V i 0 ∧ code V i 0 ≤ 16
      · simp only [if_pos h, Int.toNat_of_nonneg h.1]
      · have : elementRow (code V i 0) = 0 := by
          unfold elementRow
          split_ifs <;> first | rfl | omega
        rw [this]
        simp only [if_neg h]
        rfl
  pointwise [res_main_v16]
  rw [hg]
  exact clip_row _

theorem v26_eq : (res_main_v26 (F := Ideal) V : IVec S100000 32) (ix1 i) = BitVec.ofNat 32 (clip 6 (code V i 1)).val := by
  pointwise [res_main_v26]
  exact clip_toInt (word V i 1) 6 (by norm_num)

theorem v48_eq : (res_main_v48 (F := Ideal) V : IVec S100000 32) (ix1 i) = BitVec.ofNat 32 (clip 7 (code V i 2)).val := by
  pointwise [res_main_v48]
  exact clip_toInt (word V i 2) 7 (by norm_num)

theorem v58_eq : (res_main_v58 (F := Ideal) V : IVec S100000 32) (ix1 i) = BitVec.ofNat 32 (clip 1 (code V i 4)).val := by
  pointwise [res_main_v58]
  exact clip_toInt (word V i 4) 1 (by norm_num)

theorem v68_eq : (res_main_v68 (F := Ideal) V : IVec S100000 32) (ix1 i) = BitVec.ofNat 32 (clip 5 (code V i 3)).val := by
  pointwise [res_main_v68]
  exact clip_toInt (word V i 3) 5 (by norm_num)

theorem v78_eq : (res_main_v78 (F := Ideal) V : IVec S100000 32) (ix1 i) = BitVec.ofNat 32 (clip 4 (code V i 6)).val := by
  pointwise [res_main_v78]
  exact clip_toInt (word V i 6) 4 (by norm_num)

theorem v111_eq : (res_main_v111 (F := Ideal) V : IVec S100000 32) (ix1 i) = BitVec.ofNat 32 (clip 1 (code V i 25)).val := by
  pointwise [res_main_v111]
  exact clip_toInt (word V i 25) 1 (by norm_num)

theorem v121_eq : (res_main_v121 (F := Ideal) V : IVec S100000 32) (ix1 i) = BitVec.ofNat 32 (clip 1 (code V i 26)).val := by
  pointwise [res_main_v121]
  exact clip_toInt (word V i 26) 1 (by norm_num)

theorem v163_eq : (res_main_v163 (F := Ideal) V : IVec S100000 32) (ix1 i) = BitVec.ofNat 32 (clip 4 (code V i 28)).val := by
  pointwise [res_main_v163]
  exact clip_toInt (word V i 28) 4 (by norm_num)

theorem v173_eq : (res_main_v173 (F := Ideal) V : IVec S100000 32) (ix1 i) = BitVec.ofNat 32 (clip 7 (code V i 29)).val := by
  pointwise [res_main_v173]
  exact clip_toInt (word V i 29) 7 (by norm_num)

/-- Where the ring column is below the largest integer of its kind, adding one does not wrap. -/
theorem v38_eq (h : code V i 5 < 2147483647) :
    (res_main_v38 (F := Ideal) V : IVec S100000 32) (ix1 i) = BitVec.ofNat 32 (clip 1 (code V i 5 + 1)).val := by
  pointwise [res_main_v38]
  refine (clip_toInt (word V i 5 + 1#32) 1 (by norm_num)).trans ?_
  have hw : (word V i 5 + 1#32).toInt = code V i 5 + 1 := by
    rw [code_eq V i 5 (by norm_num)] at h ⊢
    change (word V i 5).toInt < _ at h
    change _ = (word V i 5).toInt + 1
    generalize word V i 5 = w at h ⊢
    have hl := BitVec.le_toInt w
    rw [BitVec.toInt_add]
    have h1 : (1#32 : BitVec 32).toInt = 1 := rfl
    rw [h1]
    have hl' : -2147483648 ≤ w.toInt := hl
    exact Int.bmod_eq_of_le (by norm_num; omega) (by norm_num; omega)
  rw [hw]

theorem v153_eq : (res_main_v153 (F := Ideal) V : IVec S100000 32) (ix1 i) = BitVec.ofNat 32 (ringSizeRow (code V i 27)).val := by
  have h := ringSize_word (word V i 27)
  pointwise [res_main_v153, res_main_v130]
  refine Eq.trans (congrArg (fun t => IntOp.minsi 6#32 (IntOp.maxsi 0#32 t)) h) ?_
  exact clip_row _

theorem v87_eq (k : Fin 18) : (res_main_v87 (F := Ideal) V : IVec S100000x18 32) (ix2 i k) = BitVec.ofNat 32 (clip 1 (code V i (7 + k.val))).val := by
  rw [code_eq V i (7 + k.val) (by omega)]
  pointwise [res_main_v87]
  exact clip_toInt (word V i ⟨7 + k.val, _⟩) 1 (by norm_num)

end Cert.ReferenceIdeal.Atom

end
-- ==== Proof.RValue.lean ====
/-
  The reference's result, entry by entry: the entry of the atom's row for the integers its columns hold.
-/
module

public import proofs.«01_k».proof.Proof.RWords

@[expose] public section

set_option maxRecDepth 16384

noncomputable section

open Idealize.ShloMosaic Idealize.ShloMosaic.TcCoe Idealize.SL.Sem Idealize.ShloMosaic.Routing

namespace Cert.ReferenceIdeal.Atom

open Cert.ReferenceIdeal Cert.ReferenceIdeal.Gen Cert.ReferenceIdeal.Value Cert.Atom

variable (V : Valuation τ sig (Elt Ideal)) (i : Fin 100000)

/-- The arguments, from the buffers that hold them. -/
def inputs : Inputs where
  x i k := (V (Proc.devRef .tc main_arg0) : Vec Ideal S100000x78 .f32) (ix2 i k)
  el i k := (V (Proc.devRef .tc main_arg1) : Vec Ideal S7x4 .f32) (ix2 i k)
  deg i k := (V (Proc.devRef .tc main_arg2) : Vec Ideal S7x4 .f32) (ix2 i k)
  ring i k := (V (Proc.devRef .tc main_arg3) : Vec Ideal S2x4 .f32) (ix2 i k)
  chg i k := (V (Proc.devRef .tc main_arg4) : Vec Ideal S8x4 .f32) (ix2 i k)
  aro i k := (V (Proc.devRef .tc main_arg5) : Vec Ideal S2x4 .f32) (ix2 i k)
  hyb i k := (V (Proc.devRef .tc main_arg6) : Vec Ideal S6x4 .f32) (ix2 i k)
  hyd i k := (V (Proc.devRef .tc main_arg7) : Vec Ideal S5x4 .f32) (ix2 i k)
  func i k l := (V (Proc.devRef .tc main_arg8) : Vec Ideal S18x2x2 .f32) (ix3 i k l)
  don i k := (V (Proc.devRef .tc main_arg9) : Vec Ideal S2x2 .f32) (ix2 i k)
  acc i k := (V (Proc.devRef .tc main_arg10) : Vec Ideal S2x2 .f32) (ix2 i k)
  rsz i k := (V (Proc.devRef .tc main_arg11) : Vec Ideal S7x4 .f32) (ix2 i k)
  arn i k := (V (Proc.devRef .tc main_arg12) : Vec Ideal S5x4 .f32) (ix2 i k)
  fus i k := (V (Proc.devRef .tc main_arg13) : Vec Ideal S8x4 .f32) (ix2 i k)
  redW i k := (V (Proc.devRef .tc main_arg14) : Vec Ideal S36x4 .f32) (ix2 i k)
  redB k := (V (Proc.devRef .tc main_arg15) : Vec Ideal S4 .f32) (ix1 k)
  bondW i k := (V (Proc.devRef .tc main_arg16) : Vec Ideal S48x16 .f32) (ix2 i k)
  bondB k := (V (Proc.devRef .tc main_arg17) : Vec Ideal S16 .f32) (ix1 k)

/-- Two words name a table and one of its rows; the lookup takes that row. -/
theorem gather_pair {α : Type} (x : S18x2x2.Idx → α) (idx : IVec S100000x18x2 32) (k : Fin 18) (e : Fin 2) (a : Fin 18) (b : Fin 2)
    (ha : idx (ix3 i k 0) = BitVec.ofNat 32 a.val) (hb : idx (ix3 i k 1) = BitVec.ofNat 32 b.val) :
    Host.gather gather_S18x2x2_S100000x18x2_S100000x18x2_2_01_n_n_01_2_112 x idx (ix3 i k e) = x (ix3 a b e) := by
  unfold Host.gather
  refine congrArg x (funext fun c => Fin.ext ?_)
  change GatherDims.start _ _ _ _ + GatherDims.batchCoord _ _ _ + GatherDims.offCoord _ _ _ = _
  rw [GatherDims.batchCoord_eq_zero _ _ _ List.not_mem_nil]
  have ha' := a.isLt
  have hb' := b.isLt
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · have hm : (0 : Fin 3) ∈ GatherDims.startIndexMap gather_S18x2x2_S100000x18x2_S100000x18x2_2_01_n_n_01_2_112 := by decide
    rw [GatherDims.offCoord_eq_zero _ _ _ (fun h => ((GatherDims.mem_sKept _ _).mp h).1 (by decide))]
    unfold GatherDims.start
    rw [dif_pos hm]
    have hsi : GatherDims.siIdx gather_S18x2x2_S100000x18x2_S100000x18x2_2_01_n_n_01_2_112 (ix3 i k e)
        ⟨List.idxOf (0 : Fin 3) (GatherDims.startIndexMap gather_S18x2x2_S100000x18x2_S100000x18x2_2_01_n_n_01_2_112), List.idxOf_lt_length_iff.2 hm⟩
        = ix3 i k 0 := by
      funext t; refine Fin.ext ?_
      match t with
      | ⟨0, _⟩ => rfl
      | ⟨1, _⟩ => rfl
      | ⟨2, _⟩ => rfl
    rw [hsi, ha, StableHlo.Predicate.toInt_ofNat_small _ (by omega)]
    change min a.val 17 + 0 + 0 = a.val
    omega
  · have hm : (1 : Fin 3) ∈ GatherDims.startIndexMap gather_S18x2x2_S100000x18x2_S100000x18x2_2_01_n_n_01_2_112 := by decide
    rw [GatherDims.offCoord_eq_zero _ _ _ (fun h => ((GatherDims.mem_sKept _ _).mp h).1 (by decide))]
    unfold GatherDims.start
    rw [dif_pos hm]
    have hsi : GatherDims.siIdx gather_S18x2x2_S100000x18x2_S100000x18x2_2_01_n_n_01_2_112 (ix3 i k e)
        ⟨List.idxOf (1 : Fin 3) (GatherDims.startIndexMap gather_S18x2x2_S100000x18x2_S100000x18x2_2_01_n_n_01_2_112), List.idxOf_lt_length_iff.2 hm⟩
        = ix3 i k 1 := by
      funext t; refine Fin.ext ?_
      match t with
      | ⟨0, _⟩ => rfl
      | ⟨1, _⟩ => rfl
      | ⟨2, _⟩ => rfl
    rw [hsi, hb, StableHlo.Predicate.toInt_ofNat_small _ (by omega)]
    change min b.val 1 + 0 + 0 = b.val
    omega
  · unfold GatherDims.start
    rw [dif_neg (by decide), Nat.zero_add]
    rfl

/-- An entry of one of the pieces laid side by side. -/
theorem piece {W : ℕ} (xs : List ((s : Shape) × (s.Idx → EReal))) (h : Shape.Concatenates (xs.map (·.1)) S100000x64 1) (k : ℕ)
    (hk : k < xs.length) (u : (shape2 100000 W).Idx → EReal) (hu : xs[k] = ⟨shape2 100000 W, u⟩) (p : ℕ)
    (hp : (((xs.take k).map (·.1)).map fun s => if h : s.rank = 2 then s.size ((1 : Fin 2).cast h.symm) else 0).sum = p)
    (y : Fin W) (j : Fin 64) (hj : p + y.val = j.val) : concatenate S100000x64 1 xs h (ix2 i j) = u (ix2 i y) := by
  refine concatenate_apply_piece (t := S100000x64) 1 xs h (ix2 i j) k hk (shape2 100000 W) u hu rfl p hp (ix2 i y) ?_ hj
  intro b hb
  have hc : b = (0 : Fin 2) ∨ b = (1 : Fin 2) := by
    match b with
    | ⟨0, _⟩ => exact Or.inl rfl
    | ⟨1, _⟩ => exact Or.inr rfl
  rcases hc with rfl | rfl
  · rfl
  · exact absurd rfl hb

set_option maxHeartbeats 2000000 in
/-- The pieces laid side by side, entry by entry. -/
theorem pieces (u0 u1 u2 u3 u4 u5 u6 u7 u10 u11 u12 : Vec Ideal S100000x4 .f32) (u8 u9 : Vec Ideal S100000x2 .f32)
    (u13 : Vec Ideal S100000x16 .f32) (j : Fin 64) :
    (fn_main_v186 (F := Ideal) u0 u1 u2 u3 u4 u5 u6 u7 u8 u9 u10 u11 u12 u13 : Vec Ideal S100000x64 .f32) (ix2 i j)
    = if h : j.val < 4 then u0 (ix2 i ⟨j.val, by omega⟩)
      else if h : j.val < 8 then u1 (ix2 i ⟨j.val - 4, by omega⟩)
      else if h : j.val < 12 then u2 (ix2 i ⟨j.val - 8, by omega⟩)
      else if h : j.val < 16 then u3 (ix2 i ⟨j.val - 12, by omega⟩)
      else if h : j.val < 20 then u4 (ix2 i ⟨j.val - 16, by omega⟩)
      else if h : j.val < 24 then u5 (ix2 i ⟨j.val - 20, by omega⟩)
      else if h : j.val < 28 then u6 (ix2 i ⟨j.val - 24, by omega⟩)
      else if h : j.val < 32 then u7 (ix2 i ⟨j.val - 28, by omega⟩)
      else if h : j.val < 34 then u8 (ix2 i ⟨j.val - 32, by omega⟩)
      else if h : j.val < 36 then u9 (ix2 i ⟨j.val - 34, by omega⟩)
      else if h : j.val < 40 then u10 (ix2 i ⟨j.val - 36, by omega⟩)
      else if h : j.val < 44 then u11 (ix2 i ⟨j.val - 40, by omega⟩)
      else if h : j.val < 48 then u12 (ix2 i ⟨j.val - 44, by omega⟩)
      else u13 (ix2 i ⟨j.val - 48, by omega⟩) := by
  unfold fn_main_v186
  by_cases h0 : j.val < 4
  · rw [dif_pos h0]
    exact piece i _ _ 0 (Nat.le_of_ble_eq_true rfl) u0 rfl 0 rfl ⟨j.val, _⟩ j (Nat.zero_add _)
  rw [dif_neg h0]
  by_cases h1 : j.val < 8
  · rw [dif_pos h1]
    exact piece i _ _ 1 (Nat.le_of_ble_eq_true rfl) u1 rfl 4 rfl ⟨j.val - 4, _⟩ j (by dsimp only; omega)
  rw [dif_neg h1]
  by_cases h2 : j.val < 12
  · rw [dif_pos h2]
    exact piece i _ _ 2 (Nat.le_of_ble_eq_true rfl) u2 rfl 8 rfl ⟨j.val - 8, _⟩ j (by dsimp only; omega)
  rw [dif_neg h2]
  by_cases h3 : j.val < 16
  · rw [dif_pos h3]
    exact piece i _ _ 3 (Nat.le_of_ble_eq_true rfl) u3 rfl 12 rfl ⟨j.val - 12, _⟩ j (by dsimp only; omega)
  rw [dif_neg h3]
  by_cases h4 : j.val < 20
  · rw [dif_pos h4]
    exact piece i _ _ 4 (Nat.le_of_ble_eq_true rfl) u4 rfl 16 rfl ⟨j.val - 16, _⟩ j (by dsimp only; omega)
  rw [dif_neg h4]
  by_cases h5 : j.val < 24
  · rw [dif_pos h5]
    exact piece i _ _ 5 (Nat.le_of_ble_eq_true rfl) u5 rfl 20 rfl ⟨j.val - 20, _⟩ j (by dsimp only; omega)
  rw [dif_neg h5]
  by_cases h6 : j.val < 28
  · rw [dif_pos h6]
    exact piece i _ _ 6 (Nat.le_of_ble_eq_true rfl) u6 rfl 24 rfl ⟨j.val - 24, _⟩ j (by dsimp only; omega)
  rw [dif_neg h6]
  by_cases h7 : j.val < 32
  · rw [dif_pos h7]
    exact piece i _ _ 7 (Nat.le_of_ble_eq_true rfl) u7 rfl 28 rfl ⟨j.val - 28, _⟩ j (by dsimp only; omega)
  rw [dif_neg h7]
  by_cases h8 : j.val < 34
  · rw [dif_pos h8]
    exact piece i _ _ 8 (Nat.le_of_ble_eq_true rfl) u8 rfl 32 rfl ⟨j.val - 32, _⟩ j (by dsimp only; omega)
  rw [dif_neg h8]
  by_cases h9 : j.val < 36
  · rw [dif_pos h9]
    exact piece i _ _ 9 (Nat.le_of_ble_eq_true rfl) u9 rfl 34 rfl ⟨j.val - 34, _⟩ j (by dsimp only; omega)
  rw [dif_neg h9]
  by_cases h10 : j.val < 40
  · rw [dif_pos h10]
    exact piece i _ _ 10 (Nat.le_of_ble_eq_true rfl) u10 rfl 36 rfl ⟨j.val - 36, _⟩ j (by dsimp only; omega)
  rw [dif_neg h10]
  by_cases h11 : j.val < 44
  · rw [dif_pos h11]
    exact piece i _ _ 11 (Nat.le_of_ble_eq_true rfl) u11 rfl 40 rfl ⟨j.val - 40, _⟩ j (by dsimp only; omega)
  rw [dif_neg h11]
  by_cases h12 : j.val < 48
  · rw [dif_pos h12]
    exact piece i _ _ 12 (Nat.le_of_ble_eq_true rfl) u12 rfl 44 rfl ⟨j.val - 44, _⟩ j (by dsimp only; omega)
  rw [dif_neg h12]
  exact piece i _ _ 13 (Nat.le_of_ble_eq_true rfl) u13 rfl 48 rfl ⟨j.val - 48, _⟩ j (by dsimp only; omega)

/-- The words a flag is looked up with: its number, and the clipped flag. -/
def flagWords : IVec S100000x18x2 32 :=
  (concatenate S100000x18x2 2 [⟨S100000x18x1, (broadcastInDim S100000x18x1 ![0, 1] bcast_S100000x18_S100000x18x1_0_1 (broadcastInDim S100000x18 ![1] bcast_S18_S100000x18_1
        (select (cmpi .slt (res_main_v88 (F := Ideal) V) (broadcastInDim S18 ![] bcast_S_S18 (constantI S_ 32 0#32)))
          (addi (res_main_v88 (F := Ideal) V) (broadcastInDim S18 ![] bcast_S_S18 (constantI S_ 32 18#32))) (res_main_v88 (F := Ideal) V))))⟩,
      ⟨S100000x18x1, (broadcastInDim S100000x18x1 ![0, 1] bcast_S100000x18_S100000x18x1_0_1
        (select (cmpi .slt (res_main_v87 (F := Ideal) V) (broadcastInDim S100000x18 ![] bcast_S_S100000x18 (constantI S_ 32 0#32)))
          (addi (res_main_v87 (F := Ideal) V) (broadcastInDim S100000x18 ![] bcast_S_S100000x18 (constantI S_ 32 2#32))) (res_main_v87 (F := Ideal) V)))⟩]
      concatenates_S100000x18x1_S100000x18x1_S100000x18x2_d2)

theorem flagWords_table (k : Fin 18) : flagWords V (ix3 i k 0) = BitVec.ofNat 32 k.val := by
  pointwise [flagWords, res_main_v88]
  apply wrap_of_lt
  rw [BitVec.toNat_ofNat]
  omega

theorem flagWords_row (k : Fin 18) : flagWords V (ix3 i k 1) = BitVec.ofNat 32 (clip 1 (code V i (7 + k.val))).val := by
  have hk := (clip 1 (code V i (7 + k.val))).isLt
  pointwise [flagWords]
  rw [v87_eq]
  apply wrap_of_lt
  rw [BitVec.toNat_ofNat]
  omega

/-- The looked-up flags laid out as a row. -/
theorem flags_eq (q : Fin 36) :
    (shapeCast S100000x36 (Host.gather gather_S18x2x2_S100000x18x2_S100000x18x2_2_01_n_n_01_2_112
      (V (Proc.devRef .tc main_arg8) : Vec Ideal S18x2x2 .f32) (flagWords V)) shapeCasts_S100000x18x2_S100000x36 (ix2 i q) : EReal)
    = flags (inputs V) (code V i) q := by
  pointwise
  exact gather_pair i _ _ ⟨q.val / 2, by omega⟩ ⟨q.val % 2, by omega⟩ _ _ (flagWords_table V i _) (flagWords_row V i _)

/-- The reduced flags. -/
theorem flags_sum (k : Fin 4) : ((addf (Host.dotGeneral (φ₁ := .f32) (φ₂ := .f32) dot_S100000x36_S36x4_S100000x4_1_0_0_1_n_n none
      (shapeCast S100000x36 (Host.gather gather_S18x2x2_S100000x18x2_S100000x18x2_2_01_n_n_01_2_112
        (V (Proc.devRef .tc main_arg8) : FVec Ideal S18x2x2 .f32) (flagWords V)) shapeCasts_S100000x18x2_S100000x36)
      (V (Proc.devRef .tc main_arg14) : FVec Ideal S36x4 .f32))
      (broadcastInDim S100000x4 ![0, 1] bcast_S1x4_S100000x4_0_1 (broadcastInDim S1x4 ![1] bcast_S4_S1x4_1
        (V (Proc.devRef .tc main_arg15) : FVec Ideal S4 .f32))) : FVec Ideal S100000x4 .f32) (ix2 i k) : EReal)
    = (∑ q : Fin 36, flags (inputs V) (code V i) q * (inputs V).redW q k) + (inputs V).redB k := by
  have h := flags_eq V i
  generalize shapeCast S100000x36 _ shapeCasts_S100000x18x2_S100000x36 = u at h ⊢
  pointwise
  exact congrArg (fun t : EReal => t + (inputs V).redB k)
    (Finset.sum_congr (M := EReal) rfl fun q _ => congrArg (fun t : EReal => t * (inputs V).redW q k) (h q))

/-- The bond environment. -/
theorem bond_sum (k : Fin 16) : ((addf (Host.dotGeneral (φ₁ := .f32) (φ₂ := .f32) dot_S100000x48_S48x16_S100000x16_1_0_0_1_n_n none
      (extractStridedSlice S100000x48 ![0, 30] (V (Proc.devRef .tc main_arg0) : FVec Ideal S100000x78 .f32) slices_S100000x78_S100000x48_0_30)
      (V (Proc.devRef .tc main_arg16) : FVec Ideal S48x16 .f32))
      (broadcastInDim S100000x16 ![0, 1] bcast_S1x16_S100000x16_0_1 (broadcastInDim S1x16 ![1] bcast_S16_S1x16_1
        (V (Proc.devRef .tc main_arg17) : FVec Ideal S16 .f32))) : FVec Ideal S100000x16 .f32) (ix2 i k) : EReal)
    = (∑ q : Fin 48, (inputs V).x i ⟨30 + q.val, by omega⟩ * (inputs V).bondW q k) + (inputs V).bondB k := by
  pointwise
  rfl

/-- The reference's result at an atom and a column. -/
theorem value (j : Fin 64) (hn : code V i 5 < 2147483647) :
    ((res_main_v186 (F := Ideal) V : Vec Ideal S100000x64 .f32) (ix2 i j) : EReal) = entry (inputs V) (code V i) i j := by
  refine (show (res_main_v186 (F := Ideal) V : Vec Ideal S100000x64 .f32) (ix2 i j) = _ from pieces i _ _ _ _ _ _ _ _ _ _ _ _ _ _ j).trans ?_
  unfold entry
  by_cases h0 : j.val < 4
  · rw [dif_pos h0, dif_pos h0]
    exact lookup _ rfl rfl rfl rfl rfl _ _ _ _ _ _ i _ _ (v16_eq V i) (by norm_num)
  rw [dif_neg h0, dif_neg h0]
  by_cases h1 : j.val < 8
  · rw [dif_pos h1, dif_pos h1]
    exact lookup _ rfl rfl rfl rfl rfl _ _ _ _ _ _ i _ _ (v26_eq V i) (by norm_num)
  rw [dif_neg h1, dif_neg h1]
  by_cases h2 : j.val < 12
  · rw [dif_pos h2, dif_pos h2]
    exact lookup _ rfl rfl rfl rfl rfl _ _ _ _ _ _ i _ _ (v38_eq V i hn) (by norm_num)
  rw [dif_neg h2, dif_neg h2]
  by_cases h3 : j.val < 16
  · rw [dif_pos h3, dif_pos h3]
    exact lookup _ rfl rfl rfl rfl rfl _ _ _ _ _ _ i _ _ (v48_eq V i) (by norm_num)
  rw [dif_neg h3, dif_neg h3]
  by_cases h4 : j.val < 20
  · rw [dif_pos h4, dif_pos h4]
    exact lookup _ rfl rfl rfl rfl rfl _ _ _ _ _ _ i _ _ (v58_eq V i) (by norm_num)
  rw [dif_neg h4, dif_neg h4]
  by_cases h5 : j.val < 24
  · rw [dif_pos h5, dif_pos h5]
    exact lookup _ rfl rfl rfl rfl rfl _ _ _ _ _ _ i _ _ (v68_eq V i) (by norm_num)
  rw [dif_neg h5, dif_neg h5]
  by_cases h6 : j.val < 28
  · rw [dif_pos h6, dif_pos h6]
    exact lookup _ rfl rfl rfl rfl rfl _ _ _ _ _ _ i _ _ (v78_eq V i) (by norm_num)
  rw [dif_neg h6, dif_neg h6]
  by_cases h7 : j.val < 32
  · rw [dif_pos h7, dif_pos h7]
    exact flags_sum V i _
  rw [dif_neg h7, dif_neg h7]
  by_cases h8 : j.val < 34
  · rw [dif_pos h8, dif_pos h8]
    exact lookup _ rfl rfl rfl rfl rfl _ _ _ _ _ _ i _ _ (v111_eq V i) (by norm_num)
  rw [dif_neg h8, dif_neg h8]
  by_cases h9 : j.val < 36
  · rw [dif_pos h9, dif_pos h9]
    exact lookup _ rfl rfl rfl rfl rfl _ _ _ _ _ _ i _ _ (v121_eq V i) (by norm_num)
  rw [dif_neg h9, dif_neg h9]
  by_cases h10 : j.val < 40
  · rw [dif_pos h10, dif_pos h10]
    exact lookup _ rfl rfl rfl rfl rfl _ _ _ _ _ _ i _ _ (v153_eq V i) (by norm_num)
  rw [dif_neg h10, dif_neg h10]
  by_cases h11 : j.val < 44
  · rw [dif_pos h11, dif_pos h11]
    exact lookup _ rfl rfl rfl rfl rfl _ _ _ _ _ _ i _ _ (v163_eq V i) (by norm_num)
  rw [dif_neg h11, dif_neg h11]
  by_cases h12 : j.val < 48
  · rw [dif_pos h12, dif_pos h12]
    exact lookup _ rfl rfl rfl rfl rfl _ _ _ _ _ _ i _ _ (v173_eq V i) (by norm_num)
  rw [dif_neg h12, dif_neg h12]
  exact bond_sum V i _

end Cert.ReferenceIdeal.Atom

end
-- ==== Proof.Pre.lean ====
/-
  What the precondition says: the categorical columns hold integers, the ring column's below the largest of its kind, and
  the tables' entries are real numbers.
-/
module

public import proofs.«01_k».proof.Proof.KValue
public import proofs.«01_k».proof.Proof.RValue
public import proofs.«01_k».proof.Proof.Gen.Pre_codes_and_finite_tables
public import proofs.«01_k».proof.Defs

@[expose] public section

set_option maxRecDepth 16384

noncomputable section

open Idealize.ShloMosaic Idealize.ShloMosaic.TcCoe Idealize.SL.Sem

namespace Cert.Pre_codes_and_finite_tables.Atom

open Cert.Pre_codes_and_finite_tables Cert.Pre_codes_and_finite_tables.Gen Cert.Atom

/-- An extended real that less itself is nothing is a real number. -/
theorem isReal_of_sub (e : EReal) (h : e - e = 0) : IsReal e := by
  induction e using EReal.rec with
  | bot => exact absurd h (by simp)
  | coe x => exact ⟨x, rfl⟩
  | top => exact absurd h (by simp)

/-- A table all of whose entries pass the test has real entries. -/
theorem real_of {s : Shape} (t : FVec Ideal s .f32) (hb : S_.BroadcastsInDim s (![] : Fin 0 → Fin s.rank))
    (h : cmpf .oeq (subf t t) (broadcastInDim s ![] hb (constant (F := Ideal) S_ .f32 0x00000000#32)) = fun _ => 1#1) (j : s.Idx) :
    IsReal (t j) := by
  have := congrFun h j
  apply isReal_of_sub
  pointwise at this
  exact (WordCmp.ofBool_decide_eq_one_iff _).1 this

/-- A column that passes the test holds the integer its word is. -/
theorem int_of (x : FVec Ideal S100000x78 .f32)
    (h : cmpf .oeq (sitofp (F := Ideal) .f32 (fptosi 32 (extractStridedSlice S100000x30 ![0, 0] x slices_S100000x78_S100000x30_0_0)))
      (extractStridedSlice S100000x30 ![0, 0] x slices_S100000x78_S100000x30_0_0) = fun _ => 1#1) (i : Fin 100000) (k : Fin 30) :
    (x (ix2 i ⟨k.val, by omega⟩) : EReal)
    = (((FloatOps.fptosi (F := Ideal) (φ := .f32) 32 (x (ix2 i ⟨k.val, by omega⟩)) : BitVec 32).toInt : ℝ) : EReal) := by
  have := congrFun h (ix2 i k)
  pointwise at this
  exact ((WordCmp.ofBool_decide_eq_one_iff _).1 this).symm

/-- The ring column's word is below the largest. -/
theorem ring_of (x : FVec Ideal S100000x78 .f32)
    (h : cmpi .slt (extractStridedSlice S100000x1 ![0, 5] (fptosi 32 (extractStridedSlice S100000x30 ![0, 0] x slices_S100000x78_S100000x30_0_0)) slices_S100000x30_S100000x1_0_5)
      (broadcastInDim S100000x1 ![] bcast_S_S100000x1 (constantI S_ 32 2147483647#32)) = fun _ => 1#1) (i : Fin 100000) :
    (FloatOps.fptosi (F := Ideal) (φ := .f32) 32 (x (ix2 i 5)) : BitVec 32).toInt < 2147483647 := by
  have := congrFun h (ix2 i 0)
  pointwise at this
  rw [WordCmp.cmpi_slt_eq] at this
  exact (WordCmp.ofBool_decide_eq_one_iff _).1 this

variable (m : (ℓ : Loc Cert.KernelIdeal.nD Cert.KernelIdeal.τ Cert.KernelIdeal.sig) → Buf (Elt Ideal) ℓ)

/-- The tables the products read hold real numbers. -/
theorem real_inputs (h : Pre_KernelIdeal_codes_and_finite_tables m) (c : Dev Cert.KernelIdeal.nD) :
    (Cert.KernelIdeal.Atom.inputs m c).Real := by
  obtain ⟨-, -, h1, h2, h3, h4, h5, h6, h7, h8, h9, h10, h11, h12, h13, h14⟩ := h c
  exact {
    el := fun i k => real_of _ bcast_S_S7x4 h1 (ix2 i k)
    deg := fun i k => real_of _ bcast_S_S7x4 h2 (ix2 i k)
    ring := fun i k => real_of _ bcast_S_S2x4 h3 (ix2 i k)
    chg := fun i k => real_of _ bcast_S_S8x4 h4 (ix2 i k)
    aro := fun i k => real_of _ bcast_S_S2x4 h5 (ix2 i k)
    hyb := fun i k => real_of _ bcast_S_S6x4 h6 (ix2 i k)
    hyd := fun i k => real_of _ bcast_S_S5x4 h7 (ix2 i k)
    func := fun i k l => real_of _ bcast_S_S18x2x2 h8 (ix3 i k l)
    don := fun i k => real_of _ bcast_S_S2x2 h9 (ix2 i k)
    acc := fun i k => real_of _ bcast_S_S2x2 h10 (ix2 i k)
    rsz := fun i k => real_of _ bcast_S_S7x4 h11 (ix2 i k)
    arn := fun i k => real_of _ bcast_S_S5x4 h12 (ix2 i k)
    fus := fun i k => real_of _ bcast_S_S8x4 h13 (ix2 i k)
    redW := fun i k => real_of _ bcast_S_S36x4 h14 (ix2 i k) }

variable (m' : (ℓ : Loc Cert.ReferenceIdeal.nD Cert.ReferenceIdeal.τ Cert.ReferenceIdeal.sig) → Buf (Elt Ideal) ℓ)
  (c : Dev Cert.KernelIdeal.nD)

/-- The integer the reference reads in a column is the one the argument holds there. -/
theorem code_of (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 100000) (k : Fin 78) :
    Cert.ReferenceIdeal.Atom.code (StableHlo.launchContents m' c) i k.val
    = (FloatOps.fptosi (F := Ideal) (φ := .f32) 32 ((m ((c.tc : Thread Cert.KernelIdeal.nD Cert.KernelIdeal.τ).loc Cert.KernelIdeal.main_arg0)
        : FVec Ideal S100000x78 .f32) (ix2 i k)) : BitVec 32).toInt := by
  rw [Cert.ReferenceIdeal.Atom.code_eq _ _ _ k.isLt, ← h0]
  rfl

theorem codes (h : Pre_KernelIdeal_codes_and_finite_tables m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 100000) :
    (Cert.KernelIdeal.Atom.inputs m c).Codes i (Cert.ReferenceIdeal.Atom.code (StableHlo.launchContents m' c) i) := by
  intro k hk
  rw [code_of m m' c h0]
  exact int_of _ (h c).1 i ⟨k.val, hk⟩

theorem ring_small (h : Pre_KernelIdeal_codes_and_finite_tables m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 100000) :
    Cert.ReferenceIdeal.Atom.code (StableHlo.launchContents m' c) i 5 < 2147483647 := by
  have := code_of m m' c h0 i 5
  rw [show (5 : ℕ) = (5 : Fin 78).val from rfl, this]
  exact ring_of _ (h c).2.1 i

end Cert.Pre_codes_and_finite_tables.Atom

end
-- ==== Proof.lean ====
/-
  The proof of `Cert.Claim`: the kernel's result and the reference's are, entry by entry, the same entry of the atom's
  row, for the integers the atom's columns hold.
-/
module

public import proofs.«01_k».proof.Defs
public import proofs.«01_k».proof.Proof.Pre
public import proofs.«01_k».proof.Proof.Gen.Kernel.Frame
public import proofs.«01_k».proof.Proof.Gen.KernelIdeal.Value
public import proofs.«01_k».proof.Proof.Gen.Pre_codes_and_finite_tables
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre : quiescent_ReferenceIdeal_pre_codes_and_finite_tables := fun m ρ _ =>
  quiescent_ReferenceIdeal m ρ trivial

theorem algebraic : algebraic_KernelIdeal_ReferenceIdeal_pre_codes_and_finite_tables := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hin : Cert.ReferenceIdeal.Atom.inputs (StableHlo.launchContents m' c) = Cert.KernelIdeal.Atom.inputs m c := by
    obtain ⟨h0, h1, h2, h3, h4, h5, h6, h7, h8, h9, h10, h11, h12, h13, h14, h15, h16, h17⟩ := hagree c
    simp only [Cert.ReferenceIdeal.Atom.inputs, Cert.KernelIdeal.Atom.inputs, Cert.Atom.Inputs.mk.injEq]
    exact ⟨funext fun i => funext fun k => congrFun h0 (ix2 i k), funext fun i => funext fun k => congrFun h1 (ix2 i k),
      funext fun i => funext fun k => congrFun h2 (ix2 i k), funext fun i => funext fun k => congrFun h3 (ix2 i k),
      funext fun i => funext fun k => congrFun h4 (ix2 i k), funext fun i => funext fun k => congrFun h5 (ix2 i k),
      funext fun i => funext fun k => congrFun h6 (ix2 i k), funext fun i => funext fun k => congrFun h7 (ix2 i k),
      funext fun i => funext fun k => funext fun l => congrFun h8 (ix3 i k l), funext fun i => funext fun k => congrFun h9 (ix2 i k),
      funext fun i => funext fun k => congrFun h10 (ix2 i k), funext fun i => funext fun k => congrFun h11 (ix2 i k),
      funext fun i => funext fun k => congrFun h12 (ix2 i k), funext fun i => funext fun k => congrFun h13 (ix2 i k),
      funext fun i => funext fun k => congrFun h14 (ix2 i k), funext fun k => congrFun h15 (ix1 k),
      funext fun i => funext fun k => congrFun h16 (ix2 i k), funext fun k => congrFun h17 (ix1 k)⟩
  have h0 := (hagree c).1
  have entries : ∀ (i : Fin 100000) (j : Fin 64),
      ((Cert.ReferenceIdeal.Value.res_main_v186 (F := Ideal) (StableHlo.launchContents m' c) : Vec Ideal Cert.ReferenceIdeal.S100000x64 .f32) (ix2 i j) : EReal)
      = ((Cert.KernelIdeal.Value.G20 m c : Vec Ideal Cert.KernelIdeal.S100000x64 .f32) (ix2 i j) : EReal) := fun i j => by
    refine (Cert.ReferenceIdeal.Atom.value _ i j (Cert.Pre_codes_and_finite_tables.Atom.ring_small m m' c hpre h0 i)).trans ?_
    rw [hin]
    exact (Cert.KernelIdeal.Atom.kernel_value m c i j _ (Cert.Pre_codes_and_finite_tables.Atom.codes m m' c hpre h0 i)
      (Cert.Pre_codes_and_finite_tables.Atom.real_inputs m hpre c)).symm
  funext x
  have hx : x = ix2 (x 0) (x 1) := funext fun a => by
    match a with
    | ⟨0, _⟩ => rfl
    | ⟨1, _⟩ => rfl
  rw [hx]
  exact entries (x 0) (x 1)

theorem claim : Cert.Claim := ⟨Cert.Kernel.Gen.facts, Cert.KernelIdeal.Gen.facts, Cert.ReferenceIdeal.Gen.facts, Cert.Pre_codes_and_finite_tables.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic⟩

end Cert.Proof

end
